-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edge_open [hPre_edge_open : Cert.Pre_edge_open.Facts] (m : (ℓ : Loc Cert.KernelIdeal.nD Cert.KernelIdeal.τ Cert.KernelIdeal.sig) → Buf (Elt Ideal) ℓ) : Prop :=
  ∀ c : Dev Cert.KernelIdeal.nD,
    (Cert.Pre_edge_open.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edge_open [hPre_edge_open : Cert.Pre_edge_open.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edge_open.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_edge_open [hKernelIdeal : Cert.KernelIdeal.Facts] [hPre_edge_open : Cert.Pre_edge_open.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edge_open m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_edge_open [hReferenceIdeal : Cert.ReferenceIdeal.Facts] [hPre_edge_open : Cert.Pre_edge_open.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edge_open m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_edge_open [hKernelIdeal : Cert.KernelIdeal.Facts] [hReferenceIdeal : Cert.ReferenceIdeal.Facts] [hPre_edge_open : Cert.Pre_edge_open.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edge_open m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_edge_open : Cert.Pre_edge_open.Facts),
    quiescent_Kernel (hKernel := hKernel)
    ∧ quiescent_KernelIdeal (hKernelIdeal := hKernelIdeal)
    ∧ quiescent_KernelIdeal_pre_edge_open (hKernelIdeal := hKernelIdeal) (hPre_edge_open := hPre_edge_open)
    ∧ quiescent_ReferenceIdeal (hReferenceIdeal := hReferenceIdeal)
    ∧ quiescent_ReferenceIdeal_pre_edge_open (hReferenceIdeal := hReferenceIdeal) (hPre_edge_open := hPre_edge_open)
    ∧ preserves_Kernel_KernelIdeal
    ∧ algebraic_KernelIdeal_ReferenceIdeal_pre_edge_open (hKernelIdeal := hKernelIdeal) (hReferenceIdeal := hReferenceIdeal) (hPre_edge_open := hPre_edge_open)
-- ==== Pre_edge_open.lean ====
abbrev S16x32x96x96 : Shape := ⟨4, ![16, 32, 96, 96]⟩
abbrev S192x32 : Shape := ⟨2, ![192, 32]⟩
abbrev S192 : Shape := ⟨1, ![192]⟩
abbrev S1x192 : Shape := ⟨2, ![1, 192]⟩
abbrev S1 : Shape := ⟨1, ![1]⟩
abbrev S192x1x3x3 : Shape := ⟨4, ![192, 1, 3, 3]⟩
abbrev S64x192 : Shape := ⟨2, ![64, 192]⟩
abbrev S64 : Shape := ⟨1, ![64]⟩
abbrev S_ : Shape := ⟨0, ![]⟩
abbrev S192x16x96x96 : Shape := ⟨4, ![192, 16, 96, 96]⟩
abbrev S16x192x96x96 : Shape := ⟨4, ![16, 192, 96, 96]⟩
abbrev S1x192x1x1 : Shape := ⟨4, ![1, 192, 1, 1]⟩
abbrev S16x192x6x16x6x16 : Shape := ⟨6, ![16, 192, 6, 16, 6, 16]⟩
abbrev S16x192x6x6 : Shape := ⟨4, ![16, 192, 6, 6]⟩
abbrev S1x16x6x6 : Shape := ⟨4, ![1, 16, 6, 6]⟩
abbrev S16x1x6x6 : Shape := ⟨4, ![16, 1, 6, 6]⟩
abbrev S1x1x1x1 : Shape := ⟨4, ![1, 1, 1, 1]⟩
abbrev S96 : Shape := ⟨1, ![96]⟩
abbrev S96x1 : Shape := ⟨2, ![96, 1]⟩
abbrev S16x1x96x6 : Shape := ⟨4, ![16, 1, 96, 6]⟩
abbrev S1x1x96x1 : Shape := ⟨4, ![1, 1, 96, 1]⟩
abbrev S16x1x96x96 : Shape := ⟨4, ![16, 1, 96, 96]⟩
abbrev S1x1x1x96 : Shape := ⟨4, ![1, 1, 1, 96]⟩
abbrev S16x96x96 : Shape := ⟨3, ![16, 96, 96]⟩
abbrev S16x96x1 : Shape := ⟨3, ![16, 96, 1]⟩
abbrev S16x96 : Shape := ⟨2, ![16, 96]⟩

class Facts : Prop where
  bcast_S_S16x32x96x96 : S_.BroadcastsInDim S16x32x96x96 (![] : Fin 0 → Fin S16x32x96x96.rank)
  reducesTo_S16x32x96x96_S_d0_1_2_3 : S16x32x96x96.ReducesTo [0, 1, 2, 3] S_
  h_S_ : 0 < S_.numel
  bcast_S_S192x32 : S_.BroadcastsInDim S192x32 (![] : Fin 0 → Fin S192x32.rank)
  reducesTo_S192x32_S_d0_1 : S192x32.ReducesTo [0, 1] S_
  bcast_S_S192 : S_.BroadcastsInDim S192 (![] : Fin 0 → Fin S192.rank)
  reducesTo_S192_S_d0 : S192.ReducesTo [0] S_
  bcast_S_S1x192 : S_.BroadcastsInDim S1x192 (![] : Fin 0 → Fin S1x192.rank)
  reducesTo_S1x192_S_d0_1 : S1x192.ReducesTo [0, 1] S_
  bcast_S_S1 : S_.BroadcastsInDim S1 (![] : Fin 0 → Fin S1.rank)
  reducesTo_S1_S_d0 : S1.ReducesTo [0] S_
  bcast_S_S192x1x3x3 : S_.BroadcastsInDim S192x1x3x3 (![] : Fin 0 → Fin S192x1x3x3.rank)
  reducesTo_S192x1x3x3_S_d0_1_2_3 : S192x1x3x3.ReducesTo [0, 1, 2, 3] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  transposes_S192x16x96x96_S16x192x96x96_1_0_2_3 : S192x16x96x96.Transposes [1, 0, 2, 3] S16x192x96x96
  bcast_S192_S1x192x1x1_1 : S192.BroadcastsInDim S1x192x1x1 (![1] : Fin 1 → Fin S1x192x1x1.rank)
  bcast_S1x192x1x1_S16x192x96x96_0_1_2_3 : S1x192x1x1.BroadcastsInDim S16x192x96x96 (![0, 1, 2, 3] : Fin 4 → Fin S16x192x96x96.rank)
  bcast_S_S16x192x96x96 : S_.BroadcastsInDim S16x192x96x96 (![] : Fin 0 → Fin S16x192x96x96.rank)
  shapeCasts_S16x192x96x96_S16x192x6x16x6x16 : S16x192x96x96.ShapeCasts S16x192x6x16x6x16
  reducesTo_S16x192x6x16x6x16_S16x192x6x6_d3_5 : S16x192x6x16x6x16.ReducesTo [3, 5] S16x192x6x6
  bcast_S_S16x192x6x6 : S_.BroadcastsInDim S16x192x6x6 (![] : Fin 0 → Fin S16x192x6x6.rank)
  transposes_S1x16x6x6_S16x1x6x6_1_0_2_3 : S1x16x6x6.Transposes [1, 0, 2, 3] S16x1x6x6
  bcast_S1_S1x1x1x1_1 : S1.BroadcastsInDim S1x1x1x1 (![1] : Fin 1 → Fin S1x1x1x1.rank)
  bcast_S1x1x1x1_S16x1x6x6_0_1_2_3 : S1x1x1x1.BroadcastsInDim S16x1x6x6 (![0, 1, 2, 3] : Fin 4 → Fin S16x1x6x6.rank)
  bcast_S_S16x1x6x6 : S_.BroadcastsInDim S16x1x6x6 (![] : Fin 0 → Fin S16x1x6x6.rank)
  bcast_S_S96 : S_.BroadcastsInDim S96 (![] : Fin 0 → Fin S96.rank)
  bcast_S96_S96x1_0 : S96.BroadcastsInDim S96x1 (![0] : Fin 1 → Fin S96x1.rank)
  bcast_S96x1_S1x1x96x1_2_3 : S96x1.BroadcastsInDim S1x1x96x1 (![2, 3] : Fin 2 → Fin S1x1x96x1.rank)
  bcast_S1x1x96x1_S16x1x96x6_0_1_2_3 : S1x1x96x1.BroadcastsInDim S16x1x96x6 (![0, 1, 2, 3] : Fin 4 → Fin S16x1x96x6.rank)
  bcast_S96_S1x1x1x96_3 : S96.BroadcastsInDim S1x1x1x96 (![3] : Fin 1 → Fin S1x1x1x96.rank)
  bcast_S1x1x1x96_S16x1x96x96_0_1_2_3 : S1x1x1x96.BroadcastsInDim S16x1x96x96 (![0, 1, 2, 3] : Fin 4 → Fin S16x1x96x96.rank)
  shapeCasts_S16x1x96x96_S16x96x96 : S16x1x96x96.ShapeCasts S16x96x96
  slices_S16x96x96_S16x96x1_0_0_0 : S16x96x96.Slices ![0, 0, 0] S16x96x1
  shapeCasts_S16x96x1_S16x96 : S16x96x1.ShapeCasts S16x96
  bcast_S_S16x96 : S_.BroadcastsInDim S16x96 (![] : Fin 0 → Fin S16x96.rank)
  slices_S16x96x96_S16x96x1_0_0_1 : S16x96x96.Slices ![0, 0, 1] S16x96x1
  reducesTo_S16x96_S_d0_1 : S16x96.ReducesTo [0, 1] S_
  dot_S192x32_S16x32x96x96_S192x16x96x96_1_1_0_023_n_n_wf : DotDims.WF S192x32 S16x32x96x96 S192x16x96x96 [1] [1] [0] [0, 2, 3] [] []
  dot_S1x192_S16x192x6x6_S1x16x6x6_1_1_0_023_n_n_wf : DotDims.WF S1x192 S16x192x6x6 S1x16x6x6 [1] [1] [0] [0, 2, 3] [] []
  gather_S16x1x6x6_S96x1_S16x1x96x6_013_2_n_n_2_1_16116_wf : GatherDims.WF S16x1x6x6 S96x1 S16x1x96x6 [0, 1, 3] [2] [] [2] [] 1 ![16, 1, 1, 6]
  gather_S16x1x96x6_S96x1_S16x1x96x96_012_3_n_n_3_1_161961_wf : GatherDims.WF S16x1x96x6 S96x1 S16x1x96x96 [0, 1, 2] [3] [] [3] [] 1 ![16, 1, 96, 1]

variable [Facts]

def dot_S192x32_S16x32x96x96_S192x16x96x96_1_1_0_023_n_n : DotDims S192x32 S16x32x96x96 S192x16x96x96 where
  lhsContracting := [1]
  rhsContracting := [1]
  lhsNonContracting := [0]
  rhsNonContracting := [0, 2, 3]
  lhsBatch := []
  rhsBatch := []
  wf := dot_S192x32_S16x32x96x96_S192x16x96x96_1_1_0_023_n_n_wf
def dot_S1x192_S16x192x6x6_S1x16x6x6_1_1_0_023_n_n : DotDims S1x192 S16x192x6x6 S1x16x6x6 where
  lhsContracting := [1]
  rhsContracting := [1]
  lhsNonContracting := [0]
  rhsNonContracting := [0, 2, 3]
  lhsBatch := []
  rhsBatch := []
  wf := dot_S1x192_S16x192x6x6_S1x16x6x6_1_1_0_023_n_n_wf
def gather_S16x1x6x6_S96x1_S16x1x96x6_013_2_n_n_2_1_16116 : GatherDims S16x1x6x6 S96x1 S16x1x96x6 where
  offsetDims := [0, 1, 3]
  collapsedSliceDims := [2]
  operandBatchingDims := []
  startIndicesBatchingDims := []
  startIndexMap := [2]
  indexVectorDim := 1
  sliceSizes := ![16, 1, 1, 6]
  wf := gather_S16x1x6x6_S96x1_S16x1x96x6_013_2_n_n_2_1_16116_wf
def gather_S16x1x96x6_S96x1_S16x1x96x96_012_3_n_n_3_1_161961 : GatherDims S16x1x96x6 S96x1 S16x1x96x96 where
  offsetDims := [0, 1, 2]
  collapsedSliceDims := [3]
  operandBatchingDims := []
  startIndicesBatchingDims := []
  startIndexMap := [3]
  indexVectorDim := 1
  sliceSizes := ![16, 1, 96, 1]
  wf := gather_S16x1x96x6_S96x1_S16x1x96x96_012_3_n_n_3_1_161961_wf
def fn_clip {F : FTy → Type} [FloatOps F] (arg0 : FVec F S16x192x96x96 .f32) (arg1 : FVec F S_ .f32) (arg2 : FVec F S_ .f32) : FVec F S16x192x96x96 .f32 :=
  let v0 : FVec F S_ .f32 := id arg1
  let v1 : FVec F S16x192x96x96 .f32 := broadcastInDim S16x192x96x96 ![] bcast_S_S16x192x96x96 v0
  let v2 : FVec F S16x192x96x96 .f32 := maximumf v1 arg0
  let v3 : FVec F S_ .f32 := id arg2
  let v4 : FVec F S16x192x96x96 .f32 := broadcastInDim S16x192x96x96 ![] bcast_S_S16x192x96x96 v3
  let v5 : FVec F S16x192x96x96 .f32 := minimumf v4 v2
  v5

def fn_clip_0 {F : FTy → Type} [FloatOps F] (arg0 : IVec S96 32) (arg1 : IVec S_ 32) (arg2 : IVec S_ 32) : IVec S96 32 :=
  let v0 : IVec S_ 32 := id arg1
  let v1 : IVec S96 32 := broadcastInDim S96 ![] bcast_S_S96 v0
  let v2 : IVec S96 32 := maxsi v1 arg0
  let v3 : IVec S_ 32 := id arg2
  let v4 : IVec S96 32 := broadcastInDim S96 ![] bcast_S_S96 v3
  let v5 : IVec S96 32 := minsi v4 v2
  v5

def fn_part11 {F : FTy → Type} [FloatOps F] (main_v101 : IVec S_ 1) (main_v148 : FVec F S96 .f32) (main_v175 : FVec F S16x1x96x6 .f32) (main_v187 : FVec F S16x1x96x96 .f32) (main_v195 : IVec S96x1 32) : IVec S_ 1 :=
  let main_v196 : FVec F S16x1x96x96 .f32 := (fun x i => Host.gather gather_S16x1x96x6_S96x1_S16x1x96x96_012_3_n_n_3_1_161961 x i) main_v175 main_v195
  let main_v197 : FVec F S1x1x1x96 .f32 := broadcastInDim S1x1x1x96 ![3] bcast_S96_S1x1x1x96_3 main_v148
  let main_v198 : FVec F S16x1x96x96 .f32 := broadcastInDim S16x1x96x96 ![0, 1, 2, 3] bcast_S1x1x1x96_S16x1x96x96_0_1_2_3 main_v197
  let main_v199 : FVec F S16x1x96x96 .f32 := mulf main_v196 main_v198
  let main_v200 : FVec F S16x1x96x96 .f32 := addf main_v187 main_v199
  let main_v201 : FVec F S16x96x96 .f32 := shapeCast S16x96x96 main_v200 shapeCasts_S16x1x96x96_S16x96x96
  let main_v202 : FVec F S16x96x1 .f32 := (extractStridedSlice S16x96x1 ![0, 0, 0] · slices_S16x96x96_S16x96x1_0_0_0) main_v201
  let main_v203 : FVec F S16x96 .f32 := shapeCast S16x96 main_v202 shapeCasts_S16x96x1_S16x96
  let main_cst_66 : FVec F S_ .f32 := constant S_ .f32 0x40000000#32
  let main_v204 : FVec F S16x96 .f32 := broadcastInDim S16x96 ![] bcast_S_S16x96 main_cst_66
  let main_v205 : FVec F S16x96 .f32 := mulf main_v204 main_v203
  let main_v206 : FVec F S16x96x1 .f32 := (extractStridedSlice S16x96x1 ![0, 0, 1] · slices_S16x96x96_S16x96x1_0_0_1) main_v201
  let main_v207 : FVec F S16x96 .f32 := shapeCast S16x96 main_v206 shapeCasts_S16x96x1_S16x96
  let main_v208 : FVec F S16x96 .f32 := subf main_v205 main_v207
  let main_cst_67 : FVec F S_ .f32 := constant S_ .f32 0x3A83126F#32
  let main_v209 : FVec F S16x96 .f32 := broadcastInDim S16x96 ![] bcast_S_S16x96 main_cst_67
  let main_v210 : FVec F S16x96 .f32 := addf main_v208 main_v209
  let main_cst_68 : FVec F S_ .f32 := constant S_ .f32 0x00000000#32
  let main_v211 : FVec F S16x96 .f32 := broadcastInDim S16x96 ![] bcast_S_S16x96 main_cst_68
  let main_v212 : IVec S16x96 1 := cmpf .ogt main_v210 main_v211
  let main_c_69 : IVec S_ 1 := constantI S_ 1 1#1
  let main_v213 : IVec S_ 1 := (fun x v => Host.reduce IntOp.andi x v reducesTo_S16x96_S_d0_1 h_S_) main_v212 main_c_69
  let main_v214 : IVec S_ 1 := andi main_v101 main_v213
  main_v214

def fn_part10 {F : FTy → Type} [FloatOps F] (main_v101 : IVec S_ 1) (main_v146 : IVec S96 32) (main_v148 : FVec F S96 .f32) (main_v175 : FVec F S16x1x96x6 .f32) (main_v176 : IVec S96 32) : IVec S_ 1 :=
  let main_v177 : IVec S96 1 := cmpi .slt main_v146 main_v176
  let main_c_61 : IVec S_ 32 := constantI S_ 32 6#32
  let main_v178 : IVec S96 32 := broadcastInDim S96 ![] bcast_S_S96 main_c_61
  let main_v179 : IVec S96 32 := addi main_v146 main_v178
  let main_v180 : IVec S96 32 := select main_v177 main_v179 main_v146
  let main_v181 : IVec S96x1 32 := broadcastInDim S96x1 ![0] bcast_S96_S96x1_0 main_v180
  let main_v182 : FVec F S16x1x96x96 .f32 := (fun x i => Host.gather gather_S16x1x96x6_S96x1_S16x1x96x96_012_3_n_n_3_1_161961 x i) main_v175 main_v181
  let main_cst_62 : FVec F S_ .f32 := constant S_ .f32 0x3F800000#32
  let main_v183 : FVec F S96 .f32 := broadcastInDim S96 ![] bcast_S_S96 main_cst_62
  let main_v184 : FVec F S96 .f32 := subf main_v183 main_v148
  let main_v185 : FVec F S1x1x1x96 .f32 := broadcastInDim S1x1x1x96 ![3] bcast_S96_S1x1x1x96_3 main_v184
  let main_v186 : FVec F S16x1x96x96 .f32 := broadcastInDim S16x1x96x96 ![0, 1, 2, 3] bcast_S1x1x1x96_S16x1x96x96_0_1_2_3 main_v185
  let main_v187 : FVec F S16x1x96x96 .f32 := mulf main_v182 main_v186
  let main_c_63 : IVec S_ 32 := constantI S_ 32 1#32
  let main_v188 : IVec S96 32 := broadcastInDim S96 ![] bcast_S_S96 main_c_63
  let main_v189 : IVec S96 32 := addi main_v146 main_v188
  let main_c_64 : IVec S_ 32 := constantI S_ 32 0#32
  let main_v190 : IVec S96 32 := broadcastInDim S96 ![] bcast_S_S96 main_c_64
  let main_v191 : IVec S96 1 := cmpi .slt main_v189 main_v190
  let main_c_65 : IVec S_ 32 := constantI S_ 32 6#32
  let main_v192 : IVec S96 32 := broadcastInDim S96 ![] bcast_S_S96 main_c_65
  let main_v193 : IVec S96 32 := addi main_v189 main_v192
  let main_v194 : IVec S96 32 := select main_v191 main_v193 main_v189
  let main_v195 : IVec S96x1 32 := broadcastInDim S96x1 ![0] bcast_S96_S96x1_0 main_v194
  fn_part11 (F := F) main_v101 main_v148 main_v175 main_v187 main_v195

def fn_part9 {F : FTy → Type} [FloatOps F] (main_v101 : IVec S_ 1) (main_v132 : FVec F S16x1x6x6 .f32) (main_v138 : IVec S96 32) (main_v140 : FVec F S96 .f32) (main_v146 : IVec S96 32) (main_v148 : FVec F S96 .f32) (main_v155 : FVec F S16x1x96x6 .f32) (main_v156 : FVec F S96 .f32) : IVec S_ 1 :=
  let main_v157 : FVec F S96 .f32 := subf main_v156 main_v140
  let main_v158 : FVec F S96x1 .f32 := broadcastInDim S96x1 ![0] bcast_S96_S96x1_0 main_v157
  let main_v159 : FVec F S1x1x96x1 .f32 := broadcastInDim S1x1x96x1 ![2, 3] bcast_S96x1_S1x1x96x1_2_3 main_v158
  let main_v160 : FVec F S16x1x96x6 .f32 := broadcastInDim S16x1x96x6 ![0, 1, 2, 3] bcast_S1x1x96x1_S16x1x96x6_0_1_2_3 main_v159
  let main_v161 : FVec F S16x1x96x6 .f32 := mulf main_v155 main_v160
  let main_c_57 : IVec S_ 32 := constantI S_ 32 1#32
  let main_v162 : IVec S96 32 := broadcastInDim S96 ![] bcast_S_S96 main_c_57
  let main_v163 : IVec S96 32 := addi main_v138 main_v162
  let main_c_58 : IVec S_ 32 := constantI S_ 32 0#32
  let main_v164 : IVec S96 32 := broadcastInDim S96 ![] bcast_S_S96 main_c_58
  let main_v165 : IVec S96 1 := cmpi .slt main_v163 main_v164
  let main_c_59 : IVec S_ 32 := constantI S_ 32 6#32
  let main_v166 : IVec S96 32 := broadcastInDim S96 ![] bcast_S_S96 main_c_59
  let main_v167 : IVec S96 32 := addi main_v163 main_v166
  let main_v168 : IVec S96 32 := select main_v165 main_v167 main_v163
  let main_v169 : IVec S96x1 32 := broadcastInDim S96x1 ![0] bcast_S96_S96x1_0 main_v168
  let main_v170 : FVec F S16x1x96x6 .f32 := (fun x i => Host.gather gather_S16x1x6x6_S96x1_S16x1x96x6_013_2_n_n_2_1_16116 x i) main_v132 main_v169
  let main_v171 : FVec F S96x1 .f32 := broadcastInDim S96x1 ![0] bcast_S96_S96x1_0 main_v140
  let main_v172 : FVec F S1x1x96x1 .f32 := broadcastInDim S1x1x96x1 ![2, 3] bcast_S96x1_S1x1x96x1_2_3 main_v171
  let main_v173 : FVec F S16x1x96x6 .f32 := broadcastInDim S16x1x96x6 ![0, 1, 2, 3] bcast_S1x1x96x1_S16x1x96x6_0_1_2_3 main_v172
  let main_v174 : FVec F S16x1x96x6 .f32 := mulf main_v170 main_v173
  let main_v175 : FVec F S16x1x96x6 .f32 := addf main_v161 main_v174
  let main_c_60 : IVec S_ 32 := constantI S_ 32 0#32
  let main_v176 : IVec S96 32 := broadcastInDim S96 ![] bcast_S_S96 main_c_60
  fn_part10 (F := F) main_v101 main_v146 main_v148 main_v175 main_v176

def fn_part8 {F : FTy → Type} [FloatOps F] (main_v101 : IVec S_ 1) (main_v132 : FVec F S16x1x6x6 .f32) (main_v135 : FVec F S96 .f32) (main_v138 : IVec S96 32) : IVec S_ 1 :=
  let main_v139 : FVec F S96 .f32 := sitofp .f32 main_v138
  let main_v140 : FVec F S96 .f32 := subf main_v135 main_v139
  let main_v141 : FVec F S96 .f32 := sitofp .f32 (iotaInDim S96 32 0)
  let main_cst_51 : FVec F S_ .f32 := constant S_ .f32 0x3D579436#32
  let main_v142 : FVec F S96 .f32 := broadcastInDim S96 ![] bcast_S_S96 main_cst_51
  let main_v143 : FVec F S96 .f32 := mulf main_v141 main_v142
  let main_v144 : FVec F S96 .f32 := Host.floor main_v143
  let main_v145 : IVec S96 32 := fptosi 32 main_v144
  let main_c_52 : IVec S_ 32 := constantI S_ 32 0#32
  let main_c_53 : IVec S_ 32 := constantI S_ 32 4#32
  let main_v146 : IVec S96 32 := fn_clip_0 (F := F) main_v145 main_c_52 main_c_53
  let main_v147 : FVec F S96 .f32 := sitofp .f32 main_v146
  let main_v148 : FVec F S96 .f32 := subf main_v143 main_v147
  let main_c_54 : IVec S_ 32 := constantI S_ 32 0#32
  let main_v149 : IVec S96 32 := broadcastInDim S96 ![] bcast_S_S96 main_c_54
  let main_v150 : IVec S96 1 := cmpi .slt main_v138 main_v149
  let main_c_55 : IVec S_ 32 := constantI S_ 32 6#32
  let main_v151 : IVec S96 32 := broadcastInDim S96 ![] bcast_S_S96 main_c_55
  let main_v152 : IVec S96 32 := addi main_v138 main_v151
  let main_v153 : IVec S96 32 := select main_v150 main_v152 main_v138
  let main_v154 : IVec S96x1 32 := broadcastInDim S96x1 ![0] bcast_S96_S96x1_0 main_v153
  let main_v155 : FVec F S16x1x96x6 .f32 := (fun x i => Host.gather gather_S16x1x6x6_S96x1_S16x1x96x6_013_2_n_n_2_1_16116 x i) main_v132 main_v154
  let main_cst_56 : FVec F S_ .f32 := constant S_ .f32 0x3F800000#32
  let main_v156 : FVec F S96 .f32 := broadcastInDim S96 ![] bcast_S_S96 main_cst_56
  fn_part9 (F := F) main_v101 main_v132 main_v138 main_v140 main_v146 main_v148 main_v155 main_v156

def fn_part7 {F : FTy → Type} [FloatOps F] (main_arg6 : FVec F S1x192 .f32) (main_arg7 : FVec F S1 .f32) (main_v101 : IVec S_ 1) (main_v119 : FVec F S16x192x6x6 .f32) (main_cst_45 : FVec F S_ .f32) : IVec S_ 1 :=
  let main_v120 : FVec F S16x192x6x6 .f32 := broadcastInDim S16x192x6x6 ![] bcast_S_S16x192x6x6 main_cst_45
  let main_v121 : FVec F S16x192x6x6 .f32 := Host.divf main_v119 main_v120
  let main_v122 : FVec F S1x16x6x6 .f32 := (fun l r => Host.dotGeneral dot_S1x192_S16x192x6x6_S1x16x6x6_1_1_0_023_n_n none l r) main_arg6 main_v121
  let main_v123 : FVec F S16x1x6x6 .f32 := (transpose S16x1x6x6 [1, 0, 2, 3] · transposes_S1x16x6x6_S16x1x6x6_1_0_2_3) main_v122
  let main_v124 : FVec F S1x1x1x1 .f32 := broadcastInDim S1x1x1x1 ![1] bcast_S1_S1x1x1x1_1 main_arg7
  let main_v125 : FVec F S16x1x6x6 .f32 := broadcastInDim S16x1x6x6 ![0, 1, 2, 3] bcast_S1x1x1x1_S16x1x6x6_0_1_2_3 main_v124
  let main_v126 : FVec F S16x1x6x6 .f32 := addf main_v123 main_v125
  let main_v127 : FVec F S16x1x6x6 .f32 := Host.negf main_v126
  let main_v128 : FVec F S16x1x6x6 .f32 := Host.exp main_v127
  let main_cst_46 : FVec F S_ .f32 := constant S_ .f32 0x3F800000#32
  let main_v129 : FVec F S16x1x6x6 .f32 := broadcastInDim S16x1x6x6 ![] bcast_S_S16x1x6x6 main_cst_46
  let main_v130 : FVec F S16x1x6x6 .f32 := addf main_v129 main_v128
  let main_cst_47 : FVec F S_ .f32 := constant S_ .f32 0x3F800000#32
  let main_v131 : FVec F S16x1x6x6 .f32 := broadcastInDim S16x1x6x6 ![] bcast_S_S16x1x6x6 main_cst_47
  let main_v132 : FVec F S16x1x6x6 .f32 := Host.divf main_v131 main_v130
  let main_v133 : FVec F S96 .f32 := sitofp .f32 (iotaInDim S96 32 0)
  let main_cst_48 : FVec F S_ .f32 := constant S_ .f32 0x3D579436#32
  let main_v134 : FVec F S96 .f32 := broadcastInDim S96 ![] bcast_S_S96 main_cst_48
  let main_v135 : FVec F S96 .f32 := mulf main_v133 main_v134
  let main_v136 : FVec F S96 .f32 := Host.floor main_v135
  let main_v137 : IVec S96 32 := fptosi 32 main_v136
  let main_c_49 : IVec S_ 32 := constantI S_ 32 0#32
  let main_c_50 : IVec S_ 32 := constantI S_ 32 4#32
  let main_v138 : IVec S96 32 := fn_clip_0 (F := F) main_v137 main_c_49 main_c_50
  fn_part8 (F := F) main_v101 main_v132 main_v135 main_v138

def fn_part6 {F : FTy → Type} [FloatOps F] (main_arg0 : FVec F S16x32x96x96 .f32) (main_arg1 : FVec F S192x32 .f32) (main_arg2 : FVec F S192 .f32) (main_arg3 : FVec F S192 .f32) (main_arg4 : FVec F S192 .f32) (main_arg5 : FVec F S192 .f32) (main_arg6 : FVec F S1x192 .f32) (main_arg7 : FVec F S1 .f32) (main_v97 : IVec S_ 1) (main_v100 : IVec S_ 1) : IVec S_ 1 :=
  let main_v101 : IVec S_ 1 := andi main_v97 main_v100
  let main_v102 : FVec F S192x16x96x96 .f32 := (fun l r => Host.dotGeneral dot_S192x32_S16x32x96x96_S192x16x96x96_1_1_0_023_n_n none l r) main_arg1 main_arg0
  let main_v103 : FVec F S16x192x96x96 .f32 := (transpose S16x192x96x96 [1, 0, 2, 3] · transposes_S192x16x96x96_S16x192x96x96_1_0_2_3) main_v102
  let main_cst_41 : FVec F S_ .f32 := constant S_ .f32 0x3727C5AC#32
  let main_v104 : FVec F S192 .f32 := broadcastInDim S192 ![] bcast_S_S192 main_cst_41
  let main_v105 : FVec F S192 .f32 := addf main_arg5 main_v104
  let main_v106 : FVec F S192 .f32 := Host.sqrt main_v105
  let main_v107 : FVec F S192 .f32 := Host.divf main_arg2 main_v106
  let main_v108 : FVec F S1x192x1x1 .f32 := broadcastInDim S1x192x1x1 ![1] bcast_S192_S1x192x1x1_1 main_arg4
  let main_v109 : FVec F S16x192x96x96 .f32 := broadcastInDim S16x192x96x96 ![0, 1, 2, 3] bcast_S1x192x1x1_S16x192x96x96_0_1_2_3 main_v108
  let main_v110 : FVec F S16x192x96x96 .f32 := subf main_v103 main_v109
  let main_v111 : FVec F S1x192x1x1 .f32 := broadcastInDim S1x192x1x1 ![1] bcast_S192_S1x192x1x1_1 main_v107
  let main_v112 : FVec F S16x192x96x96 .f32 := broadcastInDim S16x192x96x96 ![0, 1, 2, 3] bcast_S1x192x1x1_S16x192x96x96_0_1_2_3 main_v111
  let main_v113 : FVec F S16x192x96x96 .f32 := mulf main_v110 main_v112
  let main_v114 : FVec F S1x192x1x1 .f32 := broadcastInDim S1x192x1x1 ![1] bcast_S192_S1x192x1x1_1 main_arg3
  let main_v115 : FVec F S16x192x96x96 .f32 := broadcastInDim S16x192x96x96 ![0, 1, 2, 3] bcast_S1x192x1x1_S16x192x96x96_0_1_2_3 main_v114
  let main_v116 : FVec F S16x192x96x96 .f32 := addf main_v113 main_v115
  let main_cst_42 : FVec F S_ .f32 := constant S_ .f32 0x00000000#32
  let main_cst_43 : FVec F S_ .f32 := constant S_ .f32 0x40C00000#32
  let main_v117 : FVec F S16x192x96x96 .f32 := fn_clip (F := F) main_v116 main_cst_42 main_cst_43
  let main_v118 : FVec F S16x192x6x16x6x16 .f32 := shapeCast S16x192x6x16x6x16 main_v117 shapeCasts_S16x192x96x96_S16x192x6x16x6x16
  let main_cst_44 : FVec F S_ .f32 := constant S_ .f32 0x00000000#32
  let main_v119 : FVec F S16x192x6x6 .f32 := (fun x v => Host.reduceAdd x v reducesTo_S16x192x6x16x6x16_S16x192x6x6_d3_5 h_S_) main_v118 main_cst_44
  let main_cst_45 : FVec F S_ .f32 := constant S_ .f32 0x43800000#32
  fn_part7 (F := F) main_arg6 main_arg7 main_v101 main_v119 main_cst_45

def fn_part5 {F : FTy → Type} [FloatOps F] (main_arg0 : FVec F S16x32x96x96 .f32) (main_arg1 : FVec F S192x32 .f32) (main_arg2 : FVec F S192 .f32) (main_arg3 : FVec F S192 .f32) (main_arg4 : FVec F S192 .f32) (main_arg5 : FVec F S192 .f32) (main_arg6 : FVec F S1x192 .f32) (main_arg7 : FVec F S1 .f32) (main_arg12 : FVec F S192 .f32) (main_arg17 : FVec F S64 .f32) (main_v84 : IVec S_ 1) : IVec S_ 1 :=
  let main_v85 : FVec F S64 .f32 := Host.absf main_arg17
  let main_cst_33 : FVec F S_ .f32 := constant S_ .f32 0x7F800000#32
  let main_v86 : FVec F S64 .f32 := broadcastInDim S64 ![] bcast_S_S64 main_cst_33
  let main_v87 : IVec S64 1 := cmpf .olt main_v85 main_v86
  let main_c_34 : IVec S_ 1 := constantI S_ 1 1#1
  let main_v88 : IVec S_ 1 := (fun x v => Host.reduce IntOp.andi x v reducesTo_S64_S_d0 h_S_) main_v87 main_c_34
  let main_v89 : IVec S_ 1 := andi main_v84 main_v88
  let main_cst_35 : FVec F S_ .f32 := constant S_ .f32 0x00000000#32
  let main_v90 : FVec F S192 .f32 := broadcastInDim S192 ![] bcast_S_S192 main_cst_35
  let main_v91 : IVec S192 1 := cmpf .oge main_arg5 main_v90
  let main_c_36 : IVec S_ 1 := constantI S_ 1 1#1
  let main_v92 : IVec S_ 1 := (fun x v => Host.reduce IntOp.andi x v reducesTo_S192_S_d0 h_S_) main_v91 main_c_36
  let main_v93 : IVec S_ 1 := andi main_v89 main_v92
  let main_cst_37 : FVec F S_ .f32 := constant S_ .f32 0x00000000#32
  let main_v94 : FVec F S192 .f32 := broadcastInDim S192 ![] bcast_S_S192 main_cst_37
  let main_v95 : IVec S192 1 := cmpf .oge main_arg12 main_v94
  let main_c_38 : IVec S_ 1 := constantI S_ 1 1#1
  let main_v96 : IVec S_ 1 := (fun x v => Host.reduce IntOp.andi x v reducesTo_S192_S_d0 h_S_) main_v95 main_c_38
  let main_v97 : IVec S_ 1 := andi main_v93 main_v96
  let main_cst_39 : FVec F S_ .f32 := constant S_ .f32 0x00000000#32
  let main_v98 : FVec F S64 .f32 := broadcastInDim S64 ![] bcast_S_S64 main_cst_39
  let main_v99 : IVec S64 1 := cmpf .oge main_arg17 main_v98
  let main_c_40 : IVec S_ 1 := constantI S_ 1 1#1
  let main_v100 : IVec S_ 1 := (fun x v => Host.reduce IntOp.andi x v reducesTo_S64_S_d0 h_S_) main_v99 main_c_40
  fn_part6 (F := F) main_arg0 main_arg1 main_arg2 main_arg3 main_arg4 main_arg5 main_arg6 main_arg7 main_v97 main_v100

def fn_part4 {F : FTy → Type} [FloatOps F] (main_arg0 : FVec F S16x32x96x96 .f32) (main_arg1 : FVec F S192x32 .f32) (main_arg2 : FVec F S192 .f32) (main_arg3 : FVec F S192 .f32) (main_arg4 : FVec F S192 .f32) (main_arg5 : FVec F S192 .f32) (main_arg6 : FVec F S1x192 .f32) (main_arg7 : FVec F S1 .f32) (main_arg12 : FVec F S192 .f32) (main_arg14 : FVec F S64 .f32) (main_arg15 : FVec F S64 .f32) (main_arg16 : FVec F S64 .f32) (main_arg17 : FVec F S64 .f32) (main_v64 : IVec S_ 1) (main_v67 : IVec S64x192 1) : IVec S_ 1 :=
  let main_c_26 : IVec S_ 1 := constantI S_ 1 1#1
  let main_v68 : IVec S_ 1 := (fun x v => Host.reduce IntOp.andi x v reducesTo_S64x192_S_d0_1 h_S_) main_v67 main_c_26
  let main_v69 : IVec S_ 1 := andi main_v64 main_v68
  let main_v70 : FVec F S64 .f32 := Host.absf main_arg14
  let main_cst_27 : FVec F S_ .f32 := constant S_ .f32 0x7F800000#32
  let main_v71 : FVec F S64 .f32 := broadcastInDim S64 ![] bcast_S_S64 main_cst_27
  let main_v72 : IVec S64 1 := cmpf .olt main_v70 main_v71
  let main_c_28 : IVec S_ 1 := constantI S_ 1 1#1
  let main_v73 : IVec S_ 1 := (fun x v => Host.reduce IntOp.andi x v reducesTo_S64_S_d0 h_S_) main_v72 main_c_28
  let main_v74 : IVec S_ 1 := andi main_v69 main_v73
  let main_v75 : FVec F S64 .f32 := Host.absf main_arg15
  let main_cst_29 : FVec F S_ .f32 := constant S_ .f32 0x7F800000#32
  let main_v76 : FVec F S64 .f32 := broadcastInDim S64 ![] bcast_S_S64 main_cst_29
  let main_v77 : IVec S64 1 := cmpf .olt main_v75 main_v76
  let main_c_30 : IVec S_ 1 := constantI S_ 1 1#1
  let main_v78 : IVec S_ 1 := (fun x v => Host.reduce IntOp.andi x v reducesTo_S64_S_d0 h_S_) main_v77 main_c_30
  let main_v79 : IVec S_ 1 := andi main_v74 main_v78
  let main_v80 : FVec F S64 .f32 := Host.absf main_arg16
  let main_cst_31 : FVec F S_ .f32 := constant S_ .f32 0x7F800000#32
  let main_v81 : FVec F S64 .f32 := broadcastInDim S64 ![] bcast_S_S64 main_cst_31
  let main_v82 : IVec S64 1 := cmpf .olt main_v80 main_v81
  let main_c_32 : IVec S_ 1 := constantI S_ 1 1#1
  let main_v83 : IVec S_ 1 := (fun x v => Host.reduce IntOp.andi x v reducesTo_S64_S_d0 h_S_) main_v82 main_c_32
  let main_v84 : IVec S_ 1 := andi main_v79 main_v83
  fn_part5 (F := F) main_arg0 main_arg1 main_arg2 main_arg3 main_arg4 main_arg5 main_arg6 main_arg7 main_arg12 main_arg17 main_v84

def fn_part3 {F : FTy → Type} [FloatOps F] (main_arg0 : FVec F S16x32x96x96 .f32) (main_arg1 : FVec F S192x32 .f32) (main_arg2 : FVec F S192 .f32) (main_arg3 : FVec F S192 .f32) (main_arg4 : FVec F S192 .f32) (main_arg5 : FVec F S192 .f32) (main_arg6 : FVec F S1x192 .f32) (main_arg7 : FVec F S1 .f32) (main_arg11 : FVec F S192 .f32) (main_arg12 : FVec F S192 .f32) (main_arg13 : FVec F S64x192 .f32) (main_arg14 : FVec F S64 .f32) (main_arg15 : FVec F S64 .f32) (main_arg16 : FVec F S64 .f32) (main_arg17 : FVec F S64 .f32) (main_v49 : IVec S_ 1) (main_v50 : FVec F S192 .f32) : IVec S_ 1 :=
  let main_cst_19 : FVec F S_ .f32 := constant S_ .f32 0x7F800000#32
  let main_v51 : FVec F S192 .f32 := broadcastInDim S192 ![] bcast_S_S192 main_cst_19
  let main_v52 : IVec S192 1 := cmpf .olt main_v50 main_v51
  let main_c_20 : IVec S_ 1 := constantI S_ 1 1#1
  let main_v53 : IVec S_ 1 := (fun x v => Host.reduce IntOp.andi x v reducesTo_S192_S_d0 h_S_) main_v52 main_c_20
  let main_v54 : IVec S_ 1 := andi main_v49 main_v53
  let main_v55 : FVec F S192 .f32 := Host.absf main_arg11
  let main_cst_21 : FVec F S_ .f32 := constant S_ .f32 0x7F800000#32
  let main_v56 : FVec F S192 .f32 := broadcastInDim S192 ![] bcast_S_S192 main_cst_21
  let main_v57 : IVec S192 1 := cmpf .olt main_v55 main_v56
  let main_c_22 : IVec S_ 1 := constantI S_ 1 1#1
  let main_v58 : IVec S_ 1 := (fun x v => Host.reduce IntOp.andi x v reducesTo_S192_S_d0 h_S_) main_v57 main_c_22
  let main_v59 : IVec S_ 1 := andi main_v54 main_v58
  let main_v60 : FVec F S192 .f32 := Host.absf main_arg12
  let main_cst_23 : FVec F S_ .f32 := constant S_ .f32 0x7F800000#32
  let main_v61 : FVec F S192 .f32 := broadcastInDim S192 ![] bcast_S_S192 main_cst_23
  let main_v62 : IVec S192 1 := cmpf .olt main_v60 main_v61
  let main_c_24 : IVec S_ 1 := constantI S_ 1 1#1
  let main_v63 : IVec S_ 1 := (fun x v => Host.reduce IntOp.andi x v reducesTo_S192_S_d0 h_S_) main_v62 main_c_24
  let main_v64 : IVec S_ 1 := andi main_v59 main_v63
  let main_v65 : FVec F S64x192 .f32 := Host.absf main_arg13
  let main_cst_25 : FVec F S_ .f32 := constant S_ .f32 0x7F800000#32
  let main_v66 : FVec F S64x192 .f32 := broadcastInDim S64x192 ![] bcast_S_S64x192 main_cst_25
  let main_v67 : IVec S64x192 1 := cmpf .olt main_v65 main_v66
  fn_part4 (F := F) main_arg0 main_arg1 main_arg2 main_arg3 main_arg4 main_arg5 main_arg6 main_arg7 main_arg12 main_arg14 main_arg15 main_arg16 main_arg17 main_v64 main_v67

def fn_part2 {F : FTy → Type} [FloatOps F] (main_arg0 : FVec F S16x32x96x96 .f32) (main_arg1 : FVec F S192x32 .f32) (main_arg2 : FVec F S192 .f32) (main_arg3 : FVec F S192 .f32) (main_arg4 : FVec F S192 .f32) (main_arg5 : FVec F S192 .f32) (main_arg6 : FVec F S1x192 .f32) (main_arg7 : FVec F S1 .f32) (main_arg8 : FVec F S192x1x3x3 .f32) (main_arg9 : FVec F S192 .f32) (main_arg10 : FVec F S192 .f32) (main_arg11 : FVec F S192 .f32) (main_arg12 : FVec F S192 .f32) (main_arg13 : FVec F S64x192 .f32) (main_arg14 : FVec F S64 .f32) (main_arg15 : FVec F S64 .f32) (main_arg16 : FVec F S64 .f32) (main_arg17 : FVec F S64 .f32) (main_v29 : IVec S_ 1) (main_v32 : IVec S1x192 1) (main_c_12 : IVec S_ 1) : IVec S_ 1 :=
  let main_v33 : IVec S_ 1 := (fun x v => Host.reduce IntOp.andi x v reducesTo_S1x192_S_d0_1 h_S_) main_v32 main_c_12
  let main_v34 : IVec S_ 1 := andi main_v29 main_v33
  let main_v35 : FVec F S1 .f32 := Host.absf main_arg7
  let main_cst_13 : FVec F S_ .f32 := constant S_ .f32 0x7F800000#32
  let main_v36 : FVec F S1 .f32 := broadcastInDim S1 ![] bcast_S_S1 main_cst_13
  let main_v37 : IVec S1 1 := cmpf .olt main_v35 main_v36
  let main_c_14 : IVec S_ 1 := constantI S_ 1 1#1
  let main_v38 : IVec S_ 1 := (fun x v => Host.reduce IntOp.andi x v reducesTo_S1_S_d0 h_S_) main_v37 main_c_14
  let main_v39 : IVec S_ 1 := andi main_v34 main_v38
  let main_v40 : FVec F S192x1x3x3 .f32 := Host.absf main_arg8
  let main_cst_15 : FVec F S_ .f32 := constant S_ .f32 0x7F800000#32
  let main_v41 : FVec F S192x1x3x3 .f32 := broadcastInDim S192x1x3x3 ![] bcast_S_S192x1x3x3 main_cst_15
  let main_v42 : IVec S192x1x3x3 1 := cmpf .olt main_v40 main_v41
  let main_c_16 : IVec S_ 1 := constantI S_ 1 1#1
  let main_v43 : IVec S_ 1 := (fun x v => Host.reduce IntOp.andi x v reducesTo_S192x1x3x3_S_d0_1_2_3 h_S_) main_v42 main_c_16
  let main_v44 : IVec S_ 1 := andi main_v39 main_v43
  let main_v45 : FVec F S192 .f32 := Host.absf main_arg9
  let main_cst_17 : FVec F S_ .f32 := constant S_ .f32 0x7F800000#32
  let main_v46 : FVec F S192 .f32 := broadcastInDim S192 ![] bcast_S_S192 main_cst_17
  let main_v47 : IVec S192 1 := cmpf .olt main_v45 main_v46
  let main_c_18 : IVec S_ 1 := constantI S_ 1 1#1
  let main_v48 : IVec S_ 1 := (fun x v => Host.reduce IntOp.andi x v reducesTo_S192_S_d0 h_S_) main_v47 main_c_18
  let main_v49 : IVec S_ 1 := andi main_v44 main_v48
  let main_v50 : FVec F S192 .f32 := Host.absf main_arg10
  fn_part3 (F := F) main_arg0 main_arg1 main_arg2 main_arg3 main_arg4 main_arg5 main_arg6 main_arg7 main_arg11 main_arg12 main_arg13 main_arg14 main_arg15 main_arg16 main_arg17 main_v49 main_v50

def fn_part1 {F : FTy → Type} [FloatOps F] (main_arg0 : FVec F S16x32x96x96 .f32) (main_arg1 : FVec F S192x32 .f32) (main_arg2 : FVec F S192 .f32) (main_arg3 : FVec F S192 .f32) (main_arg4 : FVec F S192 .f32) (main_arg5 : FVec F S192 .f32) (main_arg6 : FVec F S1x192 .f32) (main_arg7 : FVec F S1 .f32) (main_arg8 : FVec F S192x1x3x3 .f32) (main_arg9 : FVec F S192 .f32) (main_arg10 : FVec F S192 .f32) (main_arg11 : FVec F S192 .f32) (main_arg12 : FVec F S192 .f32) (main_arg13 : FVec F S64x192 .f32) (main_arg14 : FVec F S64 .f32) (main_arg15 : FVec F S64 .f32) (main_arg16 : FVec F S64 .f32) (main_arg17 : FVec F S64 .f32) (main_v14 : IVec S_ 1) (main_v15 : FVec F S192 .f32) (main_cst_5 : FVec F S_ .f32) : IVec S_ 1 :=
  let main_v16 : FVec F S192 .f32 := broadcastInDim S192 ![] bcast_S_S192 main_cst_5
  let main_v17 : IVec S192 1 := cmpf .olt main_v15 main_v16
  let main_c_6 : IVec S_ 1 := constantI S_ 1 1#1
  let main_v18 : IVec S_ 1 := (fun x v => Host.reduce IntOp.andi x v reducesTo_S192_S_d0 h_S_) main_v17 main_c_6
  let main_v19 : IVec S_ 1 := andi main_v14 main_v18
  let main_v20 : FVec F S192 .f32 := Host.absf main_arg4
  let main_cst_7 : FVec F S_ .f32 := constant S_ .f32 0x7F800000#32
  let main_v21 : FVec F S192 .f32 := broadcastInDim S192 ![] bcast_S_S192 main_cst_7
  let main_v22 : IVec S192 1 := cmpf .olt main_v20 main_v21
  let main_c_8 : IVec S_ 1 := constantI S_ 1 1#1
  let main_v23 : IVec S_ 1 := (fun x v => Host.reduce IntOp.andi x v reducesTo_S192_S_d0 h_S_) main_v22 main_c_8
  let main_v24 : IVec S_ 1 := andi main_v19 main_v23
  let main_v25 : FVec F S192 .f32 := Host.absf main_arg5
  let main_cst_9 : FVec F S_ .f32 := constant S_ .f32 0x7F800000#32
  let main_v26 : FVec F S192 .f32 := broadcastInDim S192 ![] bcast_S_S192 main_cst_9
  let main_v27 : IVec S192 1 := cmpf .olt main_v25 main_v26
  let main_c_10 : IVec S_ 1 := constantI S_ 1 1#1
  let main_v28 : IVec S_ 1 := (fun x v => Host.reduce IntOp.andi x v reducesTo_S192_S_d0 h_S_) main_v27 main_c_10
  let main_v29 : IVec S_ 1 := andi main_v24 main_v28
  let main_v30 : FVec F S1x192 .f32 := Host.absf main_arg6
  let main_cst_11 : FVec F S_ .f32 := constant S_ .f32 0x7F800000#32
  let main_v31 : FVec F S1x192 .f32 := broadcastInDim S1x192 ![] bcast_S_S1x192 main_cst_11
  let main_v32 : IVec S1x192 1 := cmpf .olt main_v30 main_v31
  let main_c_12 : IVec S_ 1 := constantI S_ 1 1#1
  fn_part2 (F := F) main_arg0 main_arg1 main_arg2 main_arg3 main_arg4 main_arg5 main_arg6 main_arg7 main_arg8 main_arg9 main_arg10 main_arg11 main_arg12 main_arg13 main_arg14 main_arg15 main_arg16 main_arg17 main_v29 main_v32 main_c_12

def fn {F : FTy → Type} [FloatOps F] (main_arg0 : FVec F S16x32x96x96 .f32) (main_arg1 : FVec F S192x32 .f32) (main_arg2 : FVec F S192 .f32) (main_arg3 : FVec F S192 .f32) (main_arg4 : FVec F S192 .f32) (main_arg5 : FVec F S192 .f32) (main_arg6 : FVec F S1x192 .f32) (main_arg7 : FVec F S1 .f32) (main_arg8 : FVec F S192x1x3x3 .f32) (main_arg9 : FVec F S192 .f32) (main_arg10 : FVec F S192 .f32) (main_arg11 : FVec F S192 .f32) (main_arg12 : FVec F S192 .f32) (main_arg13 : FVec F S64x192 .f32) (main_arg14 : FVec F S64 .f32) (main_arg15 : FVec F S64 .f32) (main_arg16 : FVec F S64 .f32) (main_arg17 : FVec F S64 .f32) : IVec S_ 1 :=
  let main_v0 : FVec F S16x32x96x96 .f32 := Host.absf main_arg0
  let main_cst : FVec F S_ .f32 := constant S_ .f32 0x7F800000#32
  let main_v1 : FVec F S16x32x96x96 .f32 := broadcastInDim S16x32x96x96 ![] bcast_S_S16x32x96x96 main_cst
  let main_v2 : IVec S16x32x96x96 1 := cmpf .olt main_v0 main_v1
  let main_c : IVec S_ 1 := constantI S_ 1 1#1
  let main_v3 : IVec S_ 1 := (fun x v => Host.reduce IntOp.andi x v reducesTo_S16x32x96x96_S_d0_1_2_3 h_S_) main_v2 main_c
  let main_c_0 : IVec S_ 1 := constantI S_ 1 1#1
  let main_v4 : IVec S_ 1 := andi main_c_0 main_v3
  let main_v5 : FVec F S192x32 .f32 := Host.absf main_arg1
  let main_cst_1 : FVec F S_ .f32 := constant S_ .f32 0x7F800000#32
  let main_v6 : FVec F S192x32 .f32 := broadcastInDim S192x32 ![] bcast_S_S192x32 main_cst_1
  let main_v7 : IVec S192x32 1 := cmpf .olt main_v5 main_v6
  let main_c_2 : IVec S_ 1 := constantI S_ 1 1#1
  let main_v8 : IVec S_ 1 := (fun x v => Host.reduce IntOp.andi x v reducesTo_S192x32_S_d0_1 h_S_) main_v7 main_c_2
  let main_v9 : IVec S_ 1 := andi main_v4 main_v8
  let main_v10 : FVec F S192 .f32 := Host.absf main_arg2
  let main_cst_3 : FVec F S_ .f32 := constant S_ .f32 0x7F800000#32
  let main_v11 : FVec F S192 .f32 := broadcastInDim S192 ![] bcast_S_S192 main_cst_3
  let main_v12 : IVec S192 1 := cmpf .olt main_v10 main_v11
  let main_c_4 : IVec S_ 1 := constantI S_ 1 1#1
  let main_v13 : IVec S_ 1 := (fun x v => Host.reduce IntOp.andi x v reducesTo_S192_S_d0 h_S_) main_v12 main_c_4
  let main_v14 : IVec S_ 1 := andi main_v9 main_v13
  let main_v15 : FVec F S192 .f32 := Host.absf main_arg3
  let main_cst_5 : FVec F S_ .f32 := constant S_ .f32 0x7F800000#32
  fn_part1 (F := F) main_arg0 main_arg1 main_arg2 main_arg3 main_arg4 main_arg5 main_arg6 main_arg7 main_arg8 main_arg9 main_arg10 main_arg11 main_arg12 main_arg13 main_arg14 main_arg15 main_arg16 main_arg17 main_v14 main_v15 main_cst_5
-- ==== Kernel.lean ====
abbrev S16x32x96x96 : Shape := ⟨4, ![16, 32, 96, 96]⟩
abbrev S192x32 : Shape := ⟨2, ![192, 32]⟩
abbrev S192 : Shape := ⟨1, ![192]⟩
abbrev S1x192 : Shape := ⟨2, ![1, 192]⟩
abbrev S1 : Shape := ⟨1, ![1]⟩
abbrev S192x1x3x3 : Shape := ⟨4, ![192, 1, 3, 3]⟩
abbrev S64x192 : Shape := ⟨2, ![64, 192]⟩
abbrev S64 : Shape := ⟨1, ![64]⟩
abbrev S_ : Shape := ⟨0, ![]⟩
abbrev S192x1 : Shape := ⟨2, ![192, 1]⟩
abbrev S32x192 : Shape := ⟨2, ![32, 192]⟩
abbrev S1x1 : Shape := ⟨2, ![1, 1]⟩
abbrev S192x3x3 : Shape := ⟨3, ![192, 3, 3]⟩
abbrev S192x1x1 : Shape := ⟨3, ![192, 1, 1]⟩
abbrev S3x3x192 : Shape := ⟨3, ![3, 3, 192]⟩
abbrev S9x192 : Shape := ⟨2, ![9, 192]⟩
abbrev S64x1 : Shape := ⟨2, ![64, 1]⟩
abbrev S192x64 : Shape := ⟨2, ![192, 64]⟩
abbrev S1x64 : Shape := ⟨2, ![1, 64]⟩
abbrev S96 : Shape := ⟨1, ![96]⟩
abbrev S96x1 : Shape := ⟨2, ![96, 1]⟩
abbrev S1x96 : Shape := ⟨2, ![1, 96]⟩
abbrev S96x96 : Shape := ⟨2, ![96, 96]⟩
abbrev S16x64x48x48 : Shape := ⟨4, ![16, 64, 48, 48]⟩
abbrev S1x32x96x96 : Shape := ⟨4, ![1, 32, 96, 96]⟩
abbrev S1x64x48x48 : Shape := ⟨4, ![1, 64, 48, 48]⟩
abbrev S32x96x96 : Shape := ⟨3, ![32, 96, 96]⟩
abbrev S96x96x192 : Shape := ⟨3, ![96, 96, 192]⟩
abbrev S1x1x192 : Shape := ⟨3, ![1, 1, 192]⟩
abbrev S6x96 : Shape := ⟨2, ![6, 96]⟩
abbrev S96x6 : Shape := ⟨2, ![96, 6]⟩
abbrev S6x6 : Shape := ⟨2, ![6, 6]⟩
abbrev S1x48 : Shape := ⟨2, ![1, 48]⟩
abbrev S1x48x1 : Shape := ⟨3, ![1, 48, 1]⟩
abbrev S96x1x96 : Shape := ⟨3, ![96, 1, 96]⟩
abbrev S96x95 : Shape := ⟨2, ![96, 95]⟩
abbrev S96x48x96 : Shape := ⟨3, ![96, 48, 96]⟩
abbrev S1x1x96 : Shape := ⟨3, ![1, 1, 96]⟩
abbrev S96x48x1 : Shape := ⟨3, ![96, 48, 1]⟩
abbrev S96x48x95 : Shape := ⟨3, ![96, 48, 95]⟩
abbrev S96x48 : Shape := ⟨2, ![96, 48]⟩
abbrev S96x48x192 : Shape := ⟨3, ![96, 48, 192]⟩
abbrev S48 : Shape := ⟨1, ![48]⟩
abbrev S48x96 : Shape := ⟨2, ![48, 96]⟩
abbrev S48x1x96 : Shape := ⟨3, ![48, 1, 96]⟩
abbrev S48x95 : Shape := ⟨2, ![48, 95]⟩
abbrev S48x1 : Shape := ⟨2, ![48, 1]⟩
abbrev S48x48x96 : Shape := ⟨3, ![48, 48, 96]⟩
abbrev S48x48x1 : Shape := ⟨3, ![48, 48, 1]⟩
abbrev S48x48x95 : Shape := ⟨3, ![48, 48, 95]⟩
abbrev S48x48x192 : Shape := ⟨3, ![48, 48, 192]⟩
abbrev S1x48x192 : Shape := ⟨3, ![1, 48, 192]⟩
abbrev S50x48x192 : Shape := ⟨3, ![50, 48, 192]⟩
abbrev S48x1x192 : Shape := ⟨3, ![48, 1, 192]⟩
abbrev S48x47x192 : Shape := ⟨3, ![48, 47, 192]⟩
abbrev S2304x192 : Shape := ⟨2, ![2304, 192]⟩
abbrev S2304x64 : Shape := ⟨2, ![2304, 64]⟩
abbrev S48x48x64 : Shape := ⟨3, ![48, 48, 64]⟩
abbrev S64x48x48 : Shape := ⟨3, ![64, 48, 48]⟩

abbrev nBuf : Space → Nat
  | .hbm => 66
  | .vmem => 14
  | .smem => 0
  | _ => 0

abbrev bufTy : (tb : Table) → Fin (tcTables nBuf tb) → BufTy
  | .hbm, ⟨0, _⟩ => ⟨S16x32x96x96, .f32⟩
  | .hbm, ⟨1, _⟩ => ⟨S192x32, .f32⟩
  | .hbm, ⟨2, _⟩ => ⟨S192, .f32⟩
  | .hbm, ⟨3, _⟩ => ⟨S192, .f32⟩
  | .hbm, ⟨4, _⟩ => ⟨S192, .f32⟩
  | .hbm, ⟨5, _⟩ => ⟨S192, .f32⟩
  | .hbm, ⟨6, _⟩ => ⟨S1x192, .f32⟩
  | .hbm, ⟨7, _⟩ => ⟨S1, .f32⟩
  | .hbm, ⟨8, _⟩ => ⟨S192x1x3x3, .f32⟩
  | .hbm, ⟨9, _⟩ => ⟨S192, .f32⟩
  | .hbm, ⟨10, _⟩ => ⟨S192, .f32⟩
  | .hbm, ⟨11, _⟩ => ⟨S192, .f32⟩
  | .hbm, ⟨12, _⟩ => ⟨S192, .f32⟩
  | .hbm, ⟨13, _⟩ => ⟨S64x192, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S192, .f32⟩
  | .hbm, ⟨20, _⟩ => ⟨S192, .f32⟩
  | .hbm, ⟨21, _⟩ => ⟨S192, .f32⟩
  | .hbm, ⟨22, _⟩ => ⟨S192, .f32⟩
  | .hbm, ⟨23, _⟩ => ⟨S192x1, .f32⟩
  | .hbm, ⟨24, _⟩ => ⟨S192x32, .f32⟩
  | .hbm, ⟨25, _⟩ => ⟨S192x32, .f32⟩
  | .hbm, ⟨26, _⟩ => ⟨S32x192, .f32⟩
  | .hbm, ⟨27, _⟩ => ⟨S192, .f32⟩
  | .hbm, ⟨28, _⟩ => ⟨S192, .f32⟩
  | .hbm, ⟨29, _⟩ => ⟨S1x192, .f32⟩
  | .hbm, ⟨30, _⟩ => ⟨S1x1, .f32⟩
  | .hbm, ⟨31, _⟩ => ⟨S_, .f32⟩
  | .hbm, ⟨32, _⟩ => ⟨S192, .f32⟩
  | .hbm, ⟨33, _⟩ => ⟨S192, .f32⟩
  | .hbm, ⟨34, _⟩ => ⟨S192, .f32⟩
  | .hbm, ⟨35, _⟩ => ⟨S192, .f32⟩
  | .hbm, ⟨36, _⟩ => ⟨S192x3x3, .f32⟩
  | .hbm, ⟨37, _⟩ => ⟨S192x1x1, .f32⟩
  | .hbm, ⟨38, _⟩ => ⟨S192x3x3, .f32⟩
  | .hbm, ⟨39, _⟩ => ⟨S192x3x3, .f32⟩
  | .hbm, ⟨40, _⟩ => ⟨S3x3x192, .f32⟩
  | .hbm, ⟨41, _⟩ => ⟨S9x192, .f32⟩
  | .hbm, ⟨42, _⟩ => ⟨S192, .f32⟩
  | .hbm, ⟨43, _⟩ => ⟨S192, .f32⟩
  | .hbm, ⟨44, _⟩ => ⟨S1x192, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64x1, .f32⟩
  | .hbm, ⟨51, _⟩ => ⟨S64x192, .f32⟩
  | .hbm, ⟨52, _⟩ => ⟨S64x192, .f32⟩
  | .hbm, ⟨53, _⟩ => ⟨S192x64, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S96, .f32⟩
  | .hbm, ⟨58, _⟩ => ⟨S96x1, .f32⟩
  | .hbm, ⟨59, _⟩ => ⟨S1x96, .f32⟩
  | .hbm, ⟨60, _⟩ => ⟨S96x96, .f32⟩
  | .hbm, ⟨61, _⟩ => ⟨S96x96, .f32⟩
  | .hbm, ⟨62, _⟩ => ⟨S96x96, .i1⟩
  | .hbm, ⟨63, _⟩ => ⟨S96x96, .f32⟩
  | .hbm, ⟨64, _⟩ => ⟨S96x96, .f32⟩
  | .hbm, ⟨65, _⟩ => ⟨S16x64x48x48, .f32⟩
  | .local _ .vmem, ⟨0, _⟩ => ⟨S1x32x96x96, .f32⟩
  | .local _ .vmem, ⟨1, _⟩ => ⟨S1x32x96x96, .f32⟩
  | .local _ .vmem, ⟨2, _⟩ => ⟨S32x192, .f32⟩
  | .local _ .vmem, ⟨3, _⟩ => ⟨S1x192, .f32⟩
  | .local _ .vmem, ⟨4, _⟩ => ⟨S1x192, .f32⟩
  | .local _ .vmem, ⟨5, _⟩ => ⟨S1x1, .f32⟩
  | .local _ .vmem, ⟨6, _⟩ => ⟨S9x192, .f32⟩
  | .local _ .vmem, ⟨7, _⟩ => ⟨S1x192, .f32⟩
  | .local _ .vmem, ⟨8, _⟩ => ⟨S192x64, .f32⟩
  | .local _ .vmem, ⟨9, _⟩ => ⟨S1x64, .f32⟩
  | .local _ .vmem, ⟨10, _⟩ => ⟨S96x96, .f32⟩
  | .local _ .vmem, ⟨11, _⟩ => ⟨S96x96, .f32⟩
  | .local _ .vmem, ⟨12, _⟩ => ⟨S1x64x48x48, .f32⟩
  | .local _ .vmem, ⟨13, _⟩ => ⟨S1x64x48x48, .f32⟩
  | _, _ => ⟨S16x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x64x48x48 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x32x96x96 : Shape := ⟨4, ![16, 32, 96, 96]⟩
abbrev S192x32 : Shape := ⟨2, ![192, 32]⟩
abbrev S192 : Shape := ⟨1, ![192]⟩
abbrev S1x192 : Shape := ⟨2, ![1, 192]⟩
abbrev S1 : Shape := ⟨1, ![1]⟩
abbrev S192x1x3x3 : Shape := ⟨4, ![192, 1, 3, 3]⟩
abbrev S64x192 : Shape := ⟨2, ![64, 192]⟩
abbrev S64 : Shape := ⟨1, ![64]⟩
abbrev S192x16x96x96 : Shape := ⟨4, ![192, 16, 96, 96]⟩
abbrev S16x192x96x96 : Shape := ⟨4, ![16, 192, 96, 96]⟩
abbrev S_ : Shape := ⟨0, ![]⟩
abbrev S1x192x1x1 : Shape := ⟨4, ![1, 192, 1, 1]⟩
abbrev S16x192x6x16x6x16 : Shape := ⟨6, ![16, 192, 6, 16, 6, 16]⟩
abbrev S16x192x6x6 : Shape := ⟨4, ![16, 192, 6, 6]⟩
abbrev S1x16x6x6 : Shape := ⟨4, ![1, 16, 6, 6]⟩
abbrev S16x1x6x6 : Shape := ⟨4, ![16, 1, 6, 6]⟩
abbrev S1x1x1x1 : Shape := ⟨4, ![1, 1, 1, 1]⟩
abbrev S96 : Shape := ⟨1, ![96]⟩
abbrev S96x1 : Shape := ⟨2, ![96, 1]⟩
abbrev S16x1x96x6 : Shape := ⟨4, ![16, 1, 96, 6]⟩
abbrev S1x1x96x1 : Shape := ⟨4, ![1, 1, 96, 1]⟩
abbrev S16x1x96x96 : Shape := ⟨4, ![16, 1, 96, 96]⟩
abbrev S1x1x1x96 : Shape := ⟨4, ![1, 1, 1, 96]⟩
abbrev S16x96x96 : Shape := ⟨3, ![16, 96, 96]⟩
abbrev S16x96 : Shape := ⟨2, ![16, 96]⟩
abbrev S16x96x1 : Shape := ⟨3, ![16, 96, 1]⟩
abbrev S48 : Shape := ⟨1, ![48]⟩
abbrev S16x96x96x1 : Shape := ⟨4, ![16, 96, 96, 1]⟩
abbrev S1x1x1x48 : Shape := ⟨4, ![1, 1, 1, 48]⟩
abbrev S16x96x96x48 : Shape := ⟨4, ![16, 96, 96, 48]⟩
abbrev S16x96x48 : Shape := ⟨3, ![16, 96, 48]⟩
abbrev S16x96x48x1 : Shape := ⟨4, ![16, 96, 48, 1]⟩
abbrev S1x1x48 : Shape := ⟨3, ![1, 1, 48]⟩
abbrev S16x1x96x48 : Shape := ⟨4, ![16, 1, 96, 48]⟩
abbrev S16x192x96x48 : Shape := ⟨4, ![16, 192, 96, 48]⟩
abbrev S16x192x96x48x1 : Shape := ⟨5, ![16, 192, 96, 48, 1]⟩
abbrev S16x48 : Shape := ⟨2, ![16, 48]⟩
abbrev S16x1x48 : Shape := ⟨3, ![16, 1, 48]⟩
abbrev S16x48x96 : Shape := ⟨3, ![16, 48, 96]⟩
abbrev S16x48x96x1 : Shape := ⟨4, ![16, 48, 96, 1]⟩
abbrev S16x48x96x48 : Shape := ⟨4, ![16, 48, 96, 48]⟩
abbrev S16x48x48 : Shape := ⟨3, ![16, 48, 48]⟩
abbrev S16x48x48x1 : Shape := ⟨4, ![16, 48, 48, 1]⟩
abbrev S16x192x48x96 : Shape := ⟨4, ![16, 192, 48, 96]⟩
abbrev S16x1x48x48 : Shape := ⟨4, ![16, 1, 48, 48]⟩
abbrev S16x192x48x48 : Shape := ⟨4, ![16, 192, 48, 48]⟩
abbrev S16x192x48x48x1 : Shape := ⟨5, ![16, 192, 48, 48, 1]⟩
abbrev S16x192x50x50 : Shape := ⟨4, ![16, 192, 50, 50]⟩
abbrev S192x1x1x1 : Shape := ⟨4, ![192, 1, 1, 1]⟩
abbrev S64x16x48x48 : Shape := ⟨4, ![64, 16, 48, 48]⟩
abbrev S16x64x48x48 : Shape := ⟨4, ![16, 64, 48, 48]⟩
abbrev S1x64x1x1 : Shape := ⟨4, ![1, 64, 1, 1]⟩

abbrev nBuf : Space → Nat
  | .hbm => 481
  | .vmem => 0
  | .smem => 0
  | _ => 0

abbrev hbmTy0_0 (i : Nat) : BufTy := match i % 128 with
  | 0 => ⟨S16x32x96x96, .f32⟩
  | 1 => ⟨S192x32, .f32⟩
  | 2 => ⟨S192, .f32⟩
  | 3 => ⟨S192, .f32⟩
  | 4 => ⟨S192, .f32⟩
  | 5 => ⟨S192, .f32⟩
  | 6 => ⟨S1x192, .f32⟩
  | 7 => ⟨S1, .f32⟩
  | 8 => ⟨S192x1x3x3, .f32⟩
  | 9 => ⟨S192, .f32⟩
  | 10 => ⟨S192, .f32⟩
  | 11 => ⟨S192, .f32⟩
  | 12 => ⟨S192, .f32⟩
  | 13 => ⟨S64x192, .f32⟩
  | 14 => ⟨S64, .f32⟩
  | 15 => ⟨S64, .f32⟩
  | 16 => ⟨S64, .f32⟩
  | 17 => ⟨S64, .f32⟩
  | 18 => ⟨S192x16x96x96, .f32⟩
  | 19 => ⟨S16x192x96x96, .f32⟩
  | 20 => ⟨S_, .f32⟩
  | 21 => ⟨S192, .f32⟩
  | 22 => ⟨S192, .f32⟩
  | 23 => ⟨S192, .f32⟩
  | 24 => ⟨S192, .f32⟩
  | 25 => ⟨S1x192x1x1, .f32⟩
  | 26 => ⟨S16x192x96x96, .f32⟩
  | 27 => ⟨S16x192x96x96, .f32⟩
  | 28 => ⟨S1x192x1x1, .f32⟩
  | 29 => ⟨S16x192x96x96, .f32⟩
  | 30 => ⟨S16x192x96x96, .f32⟩
  | 31 => ⟨S1x192x1x1, .f32⟩
  | 32 => ⟨S16x192x96x96, .f32⟩
  | 33 => ⟨S16x192x96x96, .f32⟩
  | 34 => ⟨S_, .f32⟩
  | 35 => ⟨S_, .f32⟩
  | 36 => ⟨S_, .f32⟩
  | 37 => ⟨S16x192x96x96, .f32⟩
  | 38 => ⟨S16x192x96x96, .f32⟩
  | 39 => ⟨S_, .f32⟩
  | 40 => ⟨S16x192x96x96, .f32⟩
  | 41 => ⟨S16x192x96x96, .f32⟩
  | 42 => ⟨S16x192x6x16x6x16, .f32⟩
  | 43 => ⟨S_, .f32⟩
  | 44 => ⟨S16x192x6x6, .f32⟩
  | 45 => ⟨S_, .f32⟩
  | 46 => ⟨S16x192x6x6, .f32⟩
  | 47 => ⟨S16x192x6x6, .f32⟩
  | 48 => ⟨S1x16x6x6, .f32⟩
  | 49 => ⟨S16x1x6x6, .f32⟩
  | 50 => ⟨S1x1x1x1, .f32⟩
  | 51 => ⟨S16x1x6x6, .f32⟩
  | 52 => ⟨S16x1x6x6, .f32⟩
  | 53 => ⟨S16x1x6x6, .f32⟩
  | 54 => ⟨S16x1x6x6, .f32⟩
  | 55 => ⟨S_, .f32⟩
  | 56 => ⟨S16x1x6x6, .f32⟩
  | 57 => ⟨S16x1x6x6, .f32⟩
  | 58 => ⟨S_, .f32⟩
  | 59 => ⟨S16x1x6x6, .f32⟩
  | 60 => ⟨S16x1x6x6, .f32⟩
  | 61 => ⟨S96, .f32⟩
  | 62 => ⟨S_, .f32⟩
  | 63 => ⟨S96, .f32⟩
  | 64 => ⟨S96, .f32⟩
  | 65 => ⟨S96, .f32⟩
  | 66 => ⟨S96, .i32⟩
  | 67 => ⟨S_, .i32⟩
  | 68 => ⟨S_, .i32⟩
  | 69 => ⟨S_, .i32⟩
  | 70 => ⟨S96, .i32⟩
  | 71 => ⟨S96, .i32⟩
  | 72 => ⟨S_, .i32⟩
  | 73 => ⟨S96, .i32⟩
  | 74 => ⟨S96, .i32⟩
  | 75 => ⟨S96, .f32⟩
  | 76 => ⟨S96, .f32⟩
  | 77 => ⟨S96, .f32⟩
  | 78 => ⟨S_, .f32⟩
  | 79 => ⟨S96, .f32⟩
  | 80 => ⟨S96, .f32⟩
  | 81 => ⟨S96, .f32⟩
  | 82 => ⟨S96, .i32⟩
  | 83 => ⟨S_, .i32⟩
  | 84 => ⟨S_, .i32⟩
  | 85 => ⟨S_, .i32⟩
  | 86 => ⟨S96, .i32⟩
  | 87 => ⟨S96, .i32⟩
  | 88 => ⟨S_, .i32⟩
  | 89 => ⟨S96, .i32⟩
  | 90 => ⟨S96, .i32⟩
  | 91 => ⟨S96, .f32⟩
  | 92 => ⟨S96, .f32⟩
  | 93 => ⟨S_, .i32⟩
  | 94 => ⟨S96, .i32⟩
  | 95 => ⟨S96, .i1⟩
  | 96 => ⟨S_, .i32⟩
  | 97 => ⟨S96, .i32⟩
  | 98 => ⟨S96, .i32⟩
  | 99 => ⟨S96, .i32⟩
  | 100 => ⟨S96x1, .i32⟩
  | 101 => ⟨S16x1x96x6, .f32⟩
  | 102 => ⟨S_, .f32⟩
  | 103 => ⟨S96, .f32⟩
  | 104 => ⟨S96, .f32⟩
  | 105 => ⟨S96x1, .f32⟩
  | 106 => ⟨S1x1x96x1, .f32⟩
  | 107 => ⟨S16x1x96x6, .f32⟩
  | 108 => ⟨S16x1x96x6, .f32⟩
  | 109 => ⟨S_, .i32⟩
  | 110 => ⟨S96, .i32⟩
  | 111 => ⟨S96, .i32⟩
  | 112 => ⟨S_, .i32⟩
  | 113 => ⟨S96, .i32⟩
  | 114 => ⟨S96, .i1⟩
  | 115 => ⟨S_, .i32⟩
  | 116 => ⟨S96, .i32⟩
  | 117 => ⟨S96, .i32⟩
  | 118 => ⟨S96, .i32⟩
  | 119 => ⟨S96x1, .i32⟩
  | 120 => ⟨S16x1x96x6, .f32⟩
  | 121 => ⟨S96x1, .f32⟩
  | 122 => ⟨S1x1x96x1, .f32⟩
  | 123 => ⟨S16x1x96x6, .f32⟩
  | 124 => ⟨S16x1x96x6, .f32⟩
  | 125 => ⟨S16x1x96x6, .f32⟩
  | 126 => ⟨S_, .i32⟩
  | 127 => ⟨S96, .i32⟩
  | _ => ⟨S16x32x96x96, .f32⟩

abbrev hbmTy0_1 (i : Nat) : BufTy := match i % 128 with
  | 0 => ⟨S96, .i1⟩
  | 1 => ⟨S_, .i32⟩
  | 2 => ⟨S96, .i32⟩
  | 3 => ⟨S96, .i32⟩
  | 4 => ⟨S96, .i32⟩
  | 5 => ⟨S96x1, .i32⟩
  | 6 => ⟨S16x1x96x96, .f32⟩
  | 7 => ⟨S_, .f32⟩
  | 8 => ⟨S96, .f32⟩
  | 9 => ⟨S96, .f32⟩
  | 10 => ⟨S1x1x1x96, .f32⟩
  | 11 => ⟨S16x1x96x96, .f32⟩
  | 12 => ⟨S16x1x96x96, .f32⟩
  | 13 => ⟨S_, .i32⟩
  | 14 => ⟨S96, .i32⟩
  | 15 => ⟨S96, .i32⟩
  | 16 => ⟨S_, .i32⟩
  | 17 => ⟨S96, .i32⟩
  | 18 => ⟨S96, .i1⟩
  | 19 => ⟨S_, .i32⟩
  | 20 => ⟨S96, .i32⟩
  | 21 => ⟨S96, .i32⟩
  | 22 => ⟨S96, .i32⟩
  | 23 => ⟨S96x1, .i32⟩
  | 24 => ⟨S16x1x96x96, .f32⟩
  | 25 => ⟨S1x1x1x96, .f32⟩
  | 26 => ⟨S16x1x96x96, .f32⟩
  | 27 => ⟨S16x1x96x96, .f32⟩
  | 28 => ⟨S16x1x96x96, .f32⟩
  | 29 => ⟨S16x192x96x96, .f32⟩
  | 30 => ⟨S16x192x96x96, .f32⟩
  | 31 => ⟨S16x96x96, .f32⟩
  | 32 => ⟨S_, .f32⟩
  | 33 => ⟨S16x96x96, .f32⟩
  | 34 => ⟨S16x96x96, .f32⟩
  | 35 => ⟨S_, .f32⟩
  | 36 => ⟨S16x96, .f32⟩
  | 37 => ⟨S16x96x1, .f32⟩
  | 38 => ⟨S_, .f32⟩
  | 39 => ⟨S16x96x1, .f32⟩
  | 40 => ⟨S16x96x1, .f32⟩
  | 41 => ⟨S16x96x96, .f32⟩
  | 42 => ⟨S16x96x96, .f32⟩
  | 43 => ⟨S_, .f32⟩
  | 44 => ⟨S16x96x96, .f32⟩
  | 45 => ⟨S16x96x96, .f32⟩
  | 46 => ⟨S_, .f32⟩
  | 47 => ⟨S_, .f32⟩
  | 48 => ⟨S16x96x96, .f32⟩
  | 49 => ⟨S48, .f32⟩
  | 50 => ⟨S_, .f32⟩
  | 51 => ⟨S48, .f32⟩
  | 52 => ⟨S48, .f32⟩
  | 53 => ⟨S16x96x96x1, .f32⟩
  | 54 => ⟨S1x1x1x48, .f32⟩
  | 55 => ⟨S16x96x96x48, .f32⟩
  | 56 => ⟨S16x96x96x48, .f32⟩
  | 57 => ⟨S16x96x96x48, .i1⟩
  | 58 => ⟨S16x96x96x48, .i32⟩
  | 59 => ⟨S_, .i32⟩
  | 60 => ⟨S16x96x48, .i32⟩
  | 61 => ⟨S_, .i32⟩
  | 62 => ⟨S16x96x48, .i32⟩
  | 63 => ⟨S16x96x48, .i32⟩
  | 64 => ⟨S_, .i32⟩
  | 65 => ⟨S_, .i32⟩
  | 66 => ⟨S_, .i32⟩
  | 67 => ⟨S16x96x48, .i32⟩
  | 68 => ⟨S16x96x48, .i32⟩
  | 69 => ⟨S_, .i32⟩
  | 70 => ⟨S16x96x48, .i32⟩
  | 71 => ⟨S16x96x48, .i32⟩
  | 72 => ⟨S_, .i32⟩
  | 73 => ⟨S16x96x48, .i32⟩
  | 74 => ⟨S16x96x48, .i1⟩
  | 75 => ⟨S_, .i32⟩
  | 76 => ⟨S16x96x48, .i32⟩
  | 77 => ⟨S16x96x48, .i32⟩
  | 78 => ⟨S16x96x48, .i32⟩
  | 79 => ⟨S16x96x48x1, .i32⟩
  | 80 => ⟨S16x96x48, .f32⟩
  | 81 => ⟨S_, .i32⟩
  | 82 => ⟨S16x96x48, .i32⟩
  | 83 => ⟨S16x96x48, .i32⟩
  | 84 => ⟨S_, .i32⟩
  | 85 => ⟨S16x96x48, .i32⟩
  | 86 => ⟨S16x96x48, .i1⟩
  | 87 => ⟨S_, .i32⟩
  | 88 => ⟨S16x96x48, .i32⟩
  | 89 => ⟨S16x96x48, .i32⟩
  | 90 => ⟨S16x96x48, .i32⟩
  | 91 => ⟨S16x96x48x1, .i32⟩
  | 92 => ⟨S16x96x48, .f32⟩
  | 93 => ⟨S1x1x48, .f32⟩
  | 94 => ⟨S16x96x48, .f32⟩
  | 95 => ⟨S16x96x48, .f32⟩
  | 96 => ⟨S16x96x48, .f32⟩
  | 97 => ⟨S16x96x48, .f32⟩
  | 98 => ⟨S16x1x96x48, .i32⟩
  | 99 => ⟨S16x192x96x48, .i32⟩
  | 100 => ⟨S_, .i32⟩
  | 101 => ⟨S16x192x96x48, .i32⟩
  | 102 => ⟨S16x192x96x48, .i1⟩
  | 103 => ⟨S_, .i32⟩
  | 104 => ⟨S16x192x96x48, .i32⟩
  | 105 => ⟨S16x192x96x48, .i32⟩
  | 106 => ⟨S16x192x96x48, .i32⟩
  | 107 => ⟨S16x192x96x48x1, .i32⟩
  | 108 => ⟨S16x192x96x48, .f32⟩
  | 109 => ⟨S_, .i32⟩
  | 110 => ⟨S16x192x96x48, .i32⟩
  | 111 => ⟨S16x192x96x48, .i32⟩
  | 112 => ⟨S_, .i32⟩
  | 113 => ⟨S16x192x96x48, .i32⟩
  | 114 => ⟨S16x192x96x48, .i1⟩
  | 115 => ⟨S_, .i32⟩
  | 116 => ⟨S16x192x96x48, .i32⟩
  | 117 => ⟨S16x192x96x48, .i32⟩
  | 118 => ⟨S16x192x96x48, .i32⟩
  | 119 => ⟨S16x192x96x48x1, .i32⟩
  | 120 => ⟨S16x192x96x48, .f32⟩
  | 121 => ⟨S16x192x96x48, .f32⟩
  | 122 => ⟨S16x1x96x48, .f32⟩
  | 123 => ⟨S16x192x96x48, .f32⟩
  | 124 => ⟨S16x192x96x48, .f32⟩
  | 125 => ⟨S16x192x96x48, .f32⟩
  | 126 => ⟨S_, .i32⟩
  | 127 => ⟨S16x96x48, .i32⟩
  | _ => ⟨S16x32x96x96, .f32⟩

abbrev hbmTy0_2 (i : Nat) : BufTy := match i % 128 with
  | 0 => ⟨S16x96x48, .i1⟩
  | 1 => ⟨S_, .i32⟩
  | 2 => ⟨S16x96x48, .i32⟩
  | 3 => ⟨S16x96x48, .i32⟩
  | 4 => ⟨S16x96x48, .i32⟩
  | 5 => ⟨S16x96x48x1, .i32⟩
  | 6 => ⟨S16x96x48, .f32⟩
  | 7 => ⟨S_, .i32⟩
  | 8 => ⟨S16x96x48, .i32⟩
  | 9 => ⟨S16x96x48, .i32⟩
  | 10 => ⟨S_, .i32⟩
  | 11 => ⟨S16x96x48, .i32⟩
  | 12 => ⟨S16x96x48, .i1⟩
  | 13 => ⟨S_, .i32⟩
  | 14 => ⟨S16x96x48, .i32⟩
  | 15 => ⟨S16x96x48, .i32⟩
  | 16 => ⟨S16x96x48, .i32⟩
  | 17 => ⟨S16x96x48x1, .i32⟩
  | 18 => ⟨S16x96x48, .f32⟩
  | 19 => ⟨S16x96x48, .f32⟩
  | 20 => ⟨S16x96x48, .f32⟩
  | 21 => ⟨S16x96x48, .f32⟩
  | 22 => ⟨S_, .f32⟩
  | 23 => ⟨S16x96x48, .f32⟩
  | 24 => ⟨S16x96x48, .f32⟩
  | 25 => ⟨S_, .f32⟩
  | 26 => ⟨S16x48, .f32⟩
  | 27 => ⟨S16x1x48, .f32⟩
  | 28 => ⟨S_, .f32⟩
  | 29 => ⟨S16x1x48, .f32⟩
  | 30 => ⟨S16x1x48, .f32⟩
  | 31 => ⟨S16x96x48, .f32⟩
  | 32 => ⟨S16x96x48, .f32⟩
  | 33 => ⟨S_, .f32⟩
  | 34 => ⟨S16x96x48, .f32⟩
  | 35 => ⟨S16x96x48, .f32⟩
  | 36 => ⟨S_, .f32⟩
  | 37 => ⟨S_, .f32⟩
  | 38 => ⟨S16x96x48, .f32⟩
  | 39 => ⟨S16x48x96, .f32⟩
  | 40 => ⟨S48, .f32⟩
  | 41 => ⟨S_, .f32⟩
  | 42 => ⟨S48, .f32⟩
  | 43 => ⟨S48, .f32⟩
  | 44 => ⟨S16x48x96x1, .f32⟩
  | 45 => ⟨S1x1x1x48, .f32⟩
  | 46 => ⟨S16x48x96x48, .f32⟩
  | 47 => ⟨S16x48x96x48, .f32⟩
  | 48 => ⟨S16x48x96x48, .i1⟩
  | 49 => ⟨S16x48x96x48, .i32⟩
  | 50 => ⟨S_, .i32⟩
  | 51 => ⟨S16x48x48, .i32⟩
  | 52 => ⟨S_, .i32⟩
  | 53 => ⟨S16x48x48, .i32⟩
  | 54 => ⟨S16x48x48, .i32⟩
  | 55 => ⟨S_, .i32⟩
  | 56 => ⟨S_, .i32⟩
  | 57 => ⟨S_, .i32⟩
  | 58 => ⟨S16x48x48, .i32⟩
  | 59 => ⟨S16x48x48, .i32⟩
  | 60 => ⟨S_, .i32⟩
  | 61 => ⟨S16x48x48, .i32⟩
  | 62 => ⟨S16x48x48, .i32⟩
  | 63 => ⟨S_, .i32⟩
  | 64 => ⟨S16x48x48, .i32⟩
  | 65 => ⟨S16x48x48, .i1⟩
  | 66 => ⟨S_, .i32⟩
  | 67 => ⟨S16x48x48, .i32⟩
  | 68 => ⟨S16x48x48, .i32⟩
  | 69 => ⟨S16x48x48, .i32⟩
  | 70 => ⟨S16x48x48x1, .i32⟩
  | 71 => ⟨S16x48x48, .f32⟩
  | 72 => ⟨S_, .i32⟩
  | 73 => ⟨S16x48x48, .i32⟩
  | 74 => ⟨S16x48x48, .i32⟩
  | 75 => ⟨S_, .i32⟩
  | 76 => ⟨S16x48x48, .i32⟩
  | 77 => ⟨S16x48x48, .i1⟩
  | 78 => ⟨S_, .i32⟩
  | 79 => ⟨S16x48x48, .i32⟩
  | 80 => ⟨S16x48x48, .i32⟩
  | 81 => ⟨S16x48x48, .i32⟩
  | 82 => ⟨S16x48x48x1, .i32⟩
  | 83 => ⟨S16x48x48, .f32⟩
  | 84 => ⟨S1x1x48, .f32⟩
  | 85 => ⟨S16x48x48, .f32⟩
  | 86 => ⟨S16x48x48, .f32⟩
  | 87 => ⟨S16x48x48, .f32⟩
  | 88 => ⟨S16x48x48, .f32⟩
  | 89 => ⟨S16x192x48x96, .f32⟩
  | 90 => ⟨S16x1x48x48, .i32⟩
  | 91 => ⟨S16x192x48x48, .i32⟩
  | 92 => ⟨S_, .i32⟩
  | 93 => ⟨S16x192x48x48, .i32⟩
  | 94 => ⟨S16x192x48x48, .i1⟩
  | 95 => ⟨S_, .i32⟩
  | 96 => ⟨S16x192x48x48, .i32⟩
  | 97 => ⟨S16x192x48x48, .i32⟩
  | 98 => ⟨S16x192x48x48, .i32⟩
  | 99 => ⟨S16x192x48x48x1, .i32⟩
  | 100 => ⟨S16x192x48x48, .f32⟩
  | 101 => ⟨S_, .i32⟩
  | 102 => ⟨S16x192x48x48, .i32⟩
  | 103 => ⟨S16x192x48x48, .i32⟩
  | 104 => ⟨S_, .i32⟩
  | 105 => ⟨S16x192x48x48, .i32⟩
  | 106 => ⟨S16x192x48x48, .i1⟩
  | 107 => ⟨S_, .i32⟩
  | 108 => ⟨S16x192x48x48, .i32⟩
  | 109 => ⟨S16x192x48x48, .i32⟩
  | 110 => ⟨S16x192x48x48, .i32⟩
  | 111 => ⟨S16x192x48x48x1, .i32⟩
  | 112 => ⟨S16x192x48x48, .f32⟩
  | 113 => ⟨S16x192x48x48, .f32⟩
  | 114 => ⟨S16x1x48x48, .f32⟩
  | 115 => ⟨S16x192x48x48, .f32⟩
  | 116 => ⟨S16x192x48x48, .f32⟩
  | 117 => ⟨S16x192x48x48, .f32⟩
  | 118 => ⟨S16x192x48x48, .f32⟩
  | 119 => ⟨S_, .i32⟩
  | 120 => ⟨S_, .f32⟩
  | 121 => ⟨S16x192x50x50, .f32⟩
  | 122 => ⟨S16x192x48x48, .f32⟩
  | 123 => ⟨S192x1x1x1, .f32⟩
  | 124 => ⟨S192, .f32⟩
  | 125 => ⟨S1x192x1x1, .f32⟩
  | 126 => ⟨S16x192x48x48, .f32⟩
  | 127 => ⟨S16x192x48x48, .f32⟩
  | _ => ⟨S16x32x96x96, .f32⟩

abbrev hbmTy0_3 (i : Nat) : BufTy := match i % 128 with
  | 0 => ⟨S_, .f32⟩
  | 1 => ⟨S16x192x48x48, .f32⟩
  | 2 => ⟨S16x192x48x48, .f32⟩
  | 3 => ⟨S16x192x48x48, .f32⟩
  | 4 => ⟨S192x1x1x1, .f32⟩
  | 5 => ⟨S192, .f32⟩
  | 6 => ⟨S1x192x1x1, .f32⟩
  | 7 => ⟨S16x192x48x48, .f32⟩
  | 8 => ⟨S16x192x48x48, .f32⟩
  | 9 => ⟨S16x192x48x48, .f32⟩
  | 10 => ⟨S16x192x48x48, .f32⟩
  | 11 => ⟨S192x1x1x1, .f32⟩
  | 12 => ⟨S192, .f32⟩
  | 13 => ⟨S1x192x1x1, .f32⟩
  | 14 => ⟨S16x192x48x48, .f32⟩
  | 15 => ⟨S16x192x48x48, .f32⟩
  | 16 => ⟨S16x192x48x48, .f32⟩
  | 17 => ⟨S16x192x48x48, .f32⟩
  | 18 => ⟨S192x1x1x1, .f32⟩
  | 19 => ⟨S192, .f32⟩
  | 20 => ⟨S1x192x1x1, .f32⟩
  | 21 => ⟨S16x192x48x48, .f32⟩
  | 22 => ⟨S16x192x48x48, .f32⟩
  | 23 => ⟨S16x192x48x48, .f32⟩
  | 24 => ⟨S16x192x48x48, .f32⟩
  | 25 => ⟨S192x1x1x1, .f32⟩
  | 26 => ⟨S192, .f32⟩
  | 27 => ⟨S1x192x1x1, .f32⟩
  | 28 => ⟨S16x192x48x48, .f32⟩
  | 29 => ⟨S16x192x48x48, .f32⟩
  | 30 => ⟨S16x192x48x48, .f32⟩
  | 31 => ⟨S16x192x48x48, .f32⟩
  | 32 => ⟨S192x1x1x1, .f32⟩
  | 33 => ⟨S192, .f32⟩
  | 34 => ⟨S1x192x1x1, .f32⟩
  | 35 => ⟨S16x192x48x48, .f32⟩
  | 36 => ⟨S16x192x48x48, .f32⟩
  | 37 => ⟨S16x192x48x48, .f32⟩
  | 38 => ⟨S16x192x48x48, .f32⟩
  | 39 => ⟨S192x1x1x1, .f32⟩
  | 40 => ⟨S192, .f32⟩
  | 41 => ⟨S1x192x1x1, .f32⟩
  | 42 => ⟨S16x192x48x48, .f32⟩
  | 43 => ⟨S16x192x48x48, .f32⟩
  | 44 => ⟨S16x192x48x48, .f32⟩
  | 45 => ⟨S16x192x48x48, .f32⟩
  | 46 => ⟨S192x1x1x1, .f32⟩
  | 47 => ⟨S192, .f32⟩
  | 48 => ⟨S1x192x1x1, .f32⟩
  | 49 => ⟨S16x192x48x48, .f32⟩
  | 50 => ⟨S16x192x48x48, .f32⟩
  | 51 => ⟨S16x192x48x48, .f32⟩
  | 52 => ⟨S16x192x48x48, .f32⟩
  | 53 => ⟨S192x1x1x1, .f32⟩
  | 54 => ⟨S192, .f32⟩
  | 55 => ⟨S1x192x1x1, .f32⟩
  | 56 => ⟨S16x192x48x48, .f32⟩
  | 57 => ⟨S16x192x48x48, .f32⟩
  | 58 => ⟨S16x192x48x48, .f32⟩
  | 59 => ⟨S_, .f32⟩
  | 60 => ⟨S192, .f32⟩
  | 61 => ⟨S192, .f32⟩
  | 62 => ⟨S192, .f32⟩
  | 63 => ⟨S192, .f32⟩
  | 64 => ⟨S1x192x1x1, .f32⟩
  | 65 => ⟨S16x192x48x48, .f32⟩
  | 66 => ⟨S16x192x48x48, .f32⟩
  | 67 => ⟨S1x192x1x1, .f32⟩
  | 68 => ⟨S16x192x48x48, .f32⟩
  | 69 => ⟨S16x192x48x48, .f32⟩
  | 70 => ⟨S1x192x1x1, .f32⟩
  | 71 => ⟨S16x192x48x48, .f32⟩
  | 72 => ⟨S16x192x48x48, .f32⟩
  | 73 => ⟨S_, .f32⟩
  | 74 => ⟨S_, .f32⟩
  | 75 => ⟨S_, .f32⟩
  | 76 => ⟨S16x192x48x48, .f32⟩
  | 77 => ⟨S16x192x48x48, .f32⟩
  | 78 => ⟨S_, .f32⟩
  | 79 => ⟨S16x192x48x48, .f32⟩
  | 80 => ⟨S16x192x48x48, .f32⟩
  | 81 => ⟨S64x16x48x48, .f32⟩
  | 82 => ⟨S16x64x48x48, .f32⟩
  | 83 => ⟨S_, .f32⟩
  | 84 => ⟨S64, .f32⟩
  | 85 => ⟨S64, .f32⟩
  | 86 => ⟨S64, .f32⟩
  | 87 => ⟨S64, .f32⟩
  | 88 => ⟨S1x64x1x1, .f32⟩
  | 89 => ⟨S16x64x48x48, .f32⟩
  | 90 => ⟨S16x64x48x48, .f32⟩
  | 91 => ⟨S1x64x1x1, .f32⟩
  | 92 => ⟨S16x64x48x48, .f32⟩
  | 93 => ⟨S16x64x48x48, .f32⟩
  | 94 => ⟨S1x64x1x1, .f32⟩
  | 95 => ⟨S16x64x48x48, .f32⟩
  | 96 => ⟨S16x64x48x48, .f32⟩
  | _ => ⟨S16x32x96x96, .f32⟩

abbrev hbmTy (i : Nat) : BufTy := match i / 128 with
  | 0 => hbmTy0_0 i
  | 1 => hbmTy0_1 i
  | 2 => hbmTy0_2 i
  | 3 => hbmTy0_3 i
  | _ => ⟨S16x32x96x96, .f32⟩

abbrev bufTy : (tb : Table) → Fin (tcTables nBuf tb) → BufTy
  | .hbm, ⟨i, _⟩ => hbmTy i
  | _, _ => ⟨S16x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_cst_5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c : Ref sig .tc := ⟨.hbm, 67, rfl⟩
abbrev main_c_7 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_9 : Ref sig .tc := ⟨.hbm, 83, rfl⟩
abbrev main_c_10 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_c_11 : Ref sig .tc := ⟨.hbm, 93, rfl⟩
abbrev main_v47 : Ref sig .tc := ⟨.hbm, 94, rfl⟩
abbrev main_v48 : Ref sig .tc := ⟨.hbm, 95, rfl⟩
abbrev main_c_12 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_13 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_c_14 : Ref sig .tc := ⟨.hbm, 109, rfl⟩
abbrev main_v60 : Ref sig .tc := ⟨.hbm, 110, rfl⟩
abbrev main_v61 : Ref sig .tc := ⟨.hbm, 111, rfl⟩
abbrev main_c_15 : Ref sig .tc := ⟨.hbm, 112, rfl⟩
abbrev main_v62 : Ref sig .tc := ⟨.hbm, 113, rfl⟩
abbrev main_v63 : Ref sig .tc := ⟨.hbm, 114, rfl⟩
abbrev main_c_16 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_c_17 : Ref sig .tc := ⟨.hbm, 126, rfl⟩
abbrev main_v74 : Ref sig .tc := ⟨.hbm, 127, rfl⟩
abbrev main_v75 : Ref sig .tc := ⟨.hbm, 128, rfl⟩
abbrev main_c_18 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_19 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_c_20 : Ref sig .tc := ⟨.hbm, 141, rfl⟩
abbrev main_v86 : Ref sig .tc := ⟨.hbm, 142, rfl⟩
abbrev main_v87 : Ref sig .tc := ⟨.hbm, 143, rfl⟩
abbrev main_c_21 : Ref sig .tc := ⟨.hbm, 144, rfl⟩
abbrev main_v88 : Ref sig .tc := ⟨.hbm, 145, rfl⟩
abbrev main_v89 : Ref sig .tc := ⟨.hbm, 146, rfl⟩
abbrev main_c_22 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_23 : Ref sig .tc := ⟨.hbm, 160, rfl⟩
abbrev main_v102 : Ref sig .tc := ⟨.hbm, 161, rfl⟩
abbrev main_v103 : Ref sig .tc := ⟨.hbm, 162, rfl⟩
abbrev main_cst_24 : Ref sig .tc := ⟨.hbm, 163, rfl⟩
abbrev main_v104 : Ref sig .tc := ⟨.hbm, 164, rfl⟩
abbrev main_v105 : Ref sig .tc := ⟨.hbm, 165, rfl⟩
abbrev main_cst_25 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_26 : Ref sig .tc := ⟨.hbm, 171, rfl⟩
abbrev main_v110 : Ref sig .tc := ⟨.hbm, 172, rfl⟩
abbrev main_v111 : Ref sig .tc := ⟨.hbm, 173, rfl⟩
abbrev main_call3_call0_cst : Ref sig .tc := ⟨.hbm, 174, rfl⟩
abbrev main_call3_call0_v0 : Ref sig .tc := ⟨.hbm, 175, rfl⟩
abbrev main_v112 : Ref sig .tc := ⟨.hbm, 176, rfl⟩
abbrev main_v113 : Ref sig .tc := ⟨.hbm, 177, rfl⟩
abbrev main_cst_27 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_c_28 : Ref sig .tc := ⟨.hbm, 187, rfl⟩
abbrev main_v122 : Ref sig .tc := ⟨.hbm, 188, rfl⟩
abbrev main_c_29 : Ref sig .tc := ⟨.hbm, 189, rfl⟩
abbrev main_v123 : Ref sig .tc := ⟨.hbm, 190, rfl⟩
abbrev main_v124 : Ref sig .tc := ⟨.hbm, 191, rfl⟩
abbrev main_c_30 : Ref sig .tc := ⟨.hbm, 192, rfl⟩
abbrev main_c_31 : Ref sig .tc := ⟨.hbm, 193, rfl⟩
abbrev main_call4_v0 : Ref sig .tc := ⟨.hbm, 194, rfl⟩
abbrev main_call4_v1 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_v125 : Ref sig .tc := ⟨.hbm, 199, rfl⟩
abbrev main_call5_c : Ref sig .tc := ⟨.hbm, 200, rfl⟩
abbrev main_call5_v0 : Ref sig .tc := ⟨.hbm, 201, rfl⟩
abbrev main_call5_v1 : Ref sig .tc := ⟨.hbm, 202, rfl⟩
abbrev main_call5_c_0 : Ref sig .tc := ⟨.hbm, 203, rfl⟩
abbrev main_call5_v2 : Ref sig .tc := ⟨.hbm, 204, rfl⟩
abbrev main_call5_v3 : Ref sig .tc := ⟨.hbm, 205, rfl⟩
abbrev main_call5_v4 : Ref sig .tc := ⟨.hbm, 206, rfl⟩
abbrev main_call5_v5 : Ref sig .tc := ⟨.hbm, 207, rfl⟩
abbrev main_v126 : Ref sig .tc := ⟨.hbm, 208, rfl⟩
abbrev main_c_32 : Ref sig .tc := ⟨.hbm, 209, rfl⟩
abbrev main_v127 : Ref sig .tc := ⟨.hbm, 210, rfl⟩
abbrev main_v128 : Ref sig .tc := ⟨.hbm, 211, rfl⟩
abbrev main_call6_c : Ref sig .tc := ⟨.hbm, 212, rfl⟩
abbrev main_call6_v0 : Ref sig .tc := ⟨.hbm, 213, rfl⟩
abbrev main_call6_v1 : Ref sig .tc := ⟨.hbm, 214, rfl⟩
abbrev main_call6_c_0 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_call6_v5 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_call7_c : Ref sig .tc := ⟨.hbm, 228, rfl⟩
abbrev main_call7_v0 : Ref sig .tc := ⟨.hbm, 229, rfl⟩
abbrev main_call7_v1 : Ref sig .tc := ⟨.hbm, 230, rfl⟩
abbrev main_call7_c_0 : Ref sig .tc := ⟨.hbm, 231, rfl⟩
abbrev main_call7_v2 : Ref sig .tc := ⟨.hbm, 232, rfl⟩
abbrev main_call7_v3 : Ref sig .tc := ⟨.hbm, 233, rfl⟩
abbrev main_call7_v4 : Ref sig .tc := ⟨.hbm, 234, rfl⟩
abbrev main_call7_v5 : Ref sig .tc := ⟨.hbm, 235, rfl⟩
abbrev main_v137 : Ref sig .tc := ⟨.hbm, 236, rfl⟩
abbrev main_c_33 : Ref sig .tc := ⟨.hbm, 237, rfl⟩
abbrev main_v138 : Ref sig .tc := ⟨.hbm, 238, rfl⟩
abbrev main_v139 : Ref sig .tc := ⟨.hbm, 239, rfl⟩
abbrev main_call8_c : Ref sig .tc := ⟨.hbm, 240, rfl⟩
abbrev main_call8_v0 : Ref sig .tc := ⟨.hbm, 241, rfl⟩
abbrev main_call8_v1 : Ref sig .tc := ⟨.hbm, 242, rfl⟩
abbrev main_call8_c_0 : Ref sig .tc := ⟨.hbm, 243, rfl⟩
abbrev main_call8_v2 : Ref sig .tc := ⟨.hbm, 244, rfl⟩
abbrev main_call8_v3 : Ref sig .tc := ⟨.hbm, 245, rfl⟩
abbrev main_call8_v4 : Ref sig .tc := ⟨.hbm, 246, rfl⟩
abbrev main_call8_v5 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_call9_c : Ref sig .tc := ⟨.hbm, 254, rfl⟩
abbrev main_call9_v0 : Ref sig .tc := ⟨.hbm, 255, rfl⟩
abbrev main_call9_v1 : Ref sig .tc := ⟨.hbm, 256, rfl⟩
abbrev main_call9_c_0 : Ref sig .tc := ⟨.hbm, 257, rfl⟩
abbrev main_call9_v2 : Ref sig .tc := ⟨.hbm, 258, rfl⟩
abbrev main_call9_v3 : Ref sig .tc := ⟨.hbm, 259, rfl⟩
abbrev main_call9_v4 : Ref sig .tc := ⟨.hbm, 260, rfl⟩
abbrev main_call9_v5 : Ref sig .tc := ⟨.hbm, 261, rfl⟩
abbrev main_v146 : Ref sig .tc := ⟨.hbm, 262, rfl⟩
abbrev main_c_34 : Ref sig .tc := ⟨.hbm, 263, rfl⟩
abbrev main_v147 : Ref sig .tc := ⟨.hbm, 264, rfl⟩
abbrev main_v148 : Ref sig .tc := ⟨.hbm, 265, rfl⟩
abbrev main_call10_c : Ref sig .tc := ⟨.hbm, 266, rfl⟩
abbrev main_call10_v0 : Ref sig .tc := ⟨.hbm, 267, rfl⟩
abbrev main_call10_v1 : Ref sig .tc := ⟨.hbm, 268, rfl⟩
abbrev main_call10_c_0 : Ref sig .tc := ⟨.hbm, 269, rfl⟩
abbrev main_call10_v2 : Ref sig .tc := ⟨.hbm, 270, rfl⟩
abbrev main_call10_v3 : Ref sig .tc := ⟨.hbm, 271, rfl⟩
abbrev main_call10_v4 : Ref sig .tc := ⟨.hbm, 272, rfl⟩
abbrev main_call10_v5 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_cst_35 : Ref sig .tc := ⟨.hbm, 278, rfl⟩
abbrev main_v153 : Ref sig .tc := ⟨.hbm, 279, rfl⟩
abbrev main_v154 : Ref sig .tc := ⟨.hbm, 280, rfl⟩
abbrev main_cst_36 : Ref sig .tc := ⟨.hbm, 281, rfl⟩
abbrev main_v155 : Ref sig .tc := ⟨.hbm, 282, rfl⟩
abbrev main_v156 : Ref sig .tc := ⟨.hbm, 283, rfl⟩
abbrev main_cst_37 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_v160 : Ref sig .tc := ⟨.hbm, 288, rfl⟩
abbrev main_cst_38 : Ref sig .tc := ⟨.hbm, 289, rfl⟩
abbrev main_v161 : Ref sig .tc := ⟨.hbm, 290, rfl⟩
abbrev main_v162 : Ref sig .tc := ⟨.hbm, 291, rfl⟩
abbrev main_call11_call0_cst : Ref sig .tc := ⟨.hbm, 292, rfl⟩
abbrev main_call11_call0_v0 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_cst_39 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_c_40 : Ref sig .tc := ⟨.hbm, 306, rfl⟩
abbrev main_v174 : Ref sig .tc := ⟨.hbm, 307, rfl⟩
abbrev main_c_41 : Ref sig .tc := ⟨.hbm, 308, rfl⟩
abbrev main_v175 : Ref sig .tc := ⟨.hbm, 309, rfl⟩
abbrev main_v176 : Ref sig .tc := ⟨.hbm, 310, rfl⟩
abbrev main_c_42 : Ref sig .tc := ⟨.hbm, 311, rfl⟩
abbrev main_c_43 : Ref sig .tc := ⟨.hbm, 312, rfl⟩
abbrev main_call12_v0 : Ref sig .tc := ⟨.hbm, 313, rfl⟩
abbrev main_call12_v1 : Ref sig .tc := ⟨.hbm, 314, rfl⟩
abbrev main_call12_v2 : Ref sig .tc := ⟨.hbm, 315, rfl⟩
abbrev main_call12_v3 : Ref sig .tc := ⟨.hbm, 316, rfl⟩
abbrev main_call12_v4 : Ref sig .tc := ⟨.hbm, 317, rfl⟩
abbrev main_v177 : Ref sig .tc := ⟨.hbm, 318, rfl⟩
abbrev main_call13_c : Ref sig .tc := ⟨.hbm, 319, rfl⟩
abbrev main_call13_v0 : Ref sig .tc := ⟨.hbm, 320, rfl⟩
abbrev main_call13_v1 : Ref sig .tc := ⟨.hbm, 321, rfl⟩
abbrev main_call13_c_0 : Ref sig .tc := ⟨.hbm, 322, rfl⟩
abbrev main_call13_v2 : Ref sig .tc := ⟨.hbm, 323, rfl⟩
abbrev main_call13_v3 : Ref sig .tc := ⟨.hbm, 324, rfl⟩
abbrev main_call13_v4 : Ref sig .tc := ⟨.hbm, 325, rfl⟩
abbrev main_call13_v5 : Ref sig .tc := ⟨.hbm, 326, rfl⟩
abbrev main_v178 : Ref sig .tc := ⟨.hbm, 327, rfl⟩
abbrev main_c_44 : Ref sig .tc := ⟨.hbm, 328, rfl⟩
abbrev main_v179 : Ref sig .tc := ⟨.hbm, 329, rfl⟩
abbrev main_v180 : Ref sig .tc := ⟨.hbm, 330, rfl⟩
abbrev main_call14_c : Ref sig .tc := ⟨.hbm, 331, rfl⟩
abbrev main_call14_v0 : Ref sig .tc := ⟨.hbm, 332, rfl⟩
abbrev main_call14_v1 : Ref sig .tc := ⟨.hbm, 333, rfl⟩
abbrev main_call14_c_0 : Ref sig .tc := ⟨.hbm, 334, rfl⟩
abbrev main_call14_v2 : Ref sig .tc := ⟨.hbm, 335, rfl⟩
abbrev main_call14_v3 : Ref sig .tc := ⟨.hbm, 336, rfl⟩
abbrev main_call14_v4 : Ref sig .tc := ⟨.hbm, 337, rfl⟩
abbrev main_call14_v5 : Ref sig .tc := ⟨.hbm, 338, rfl⟩
abbrev main_v181 : Ref sig .tc := ⟨.hbm, 339, rfl⟩
abbrev main_v182 : Ref sig .tc := ⟨.hbm, 340, rfl⟩
abbrev main_v183 : Ref sig .tc := ⟨.hbm, 341, rfl⟩
abbrev main_v184 : Ref sig .tc := ⟨.hbm, 342, rfl⟩
abbrev main_v185 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_v189 : Ref sig .tc := ⟨.hbm, 347, rfl⟩
abbrev main_call15_c : Ref sig .tc := ⟨.hbm, 348, rfl⟩
abbrev main_call15_v0 : Ref sig .tc := ⟨.hbm, 349, rfl⟩
abbrev main_call15_v1 : Ref sig .tc := ⟨.hbm, 350, rfl⟩
abbrev main_call15_c_0 : Ref sig .tc := ⟨.hbm, 351, rfl⟩
abbrev main_call15_v2 : Ref sig .tc := ⟨.hbm, 352, rfl⟩
abbrev main_call15_v3 : Ref sig .tc := ⟨.hbm, 353, rfl⟩
abbrev main_call15_v4 : Ref sig .tc := ⟨.hbm, 354, rfl⟩
abbrev main_call15_v5 : Ref sig .tc := ⟨.hbm, 355, rfl⟩
abbrev main_v190 : Ref sig .tc := ⟨.hbm, 356, rfl⟩
abbrev main_c_45 : Ref sig .tc := ⟨.hbm, 357, rfl⟩
abbrev main_v191 : Ref sig .tc := ⟨.hbm, 358, rfl⟩
abbrev main_v192 : Ref sig .tc := ⟨.hbm, 359, rfl⟩
abbrev main_call16_c : Ref sig .tc := ⟨.hbm, 360, rfl⟩
abbrev main_call16_v0 : Ref sig .tc := ⟨.hbm, 361, rfl⟩
abbrev main_call16_v1 : Ref sig .tc := ⟨.hbm, 362, rfl⟩
abbrev main_call16_c_0 : Ref sig .tc := ⟨.hbm, 363, rfl⟩
abbrev main_call16_v2 : Ref sig .tc := ⟨.hbm, 364, rfl⟩
abbrev main_call16_v3 : Ref sig .tc := ⟨.hbm, 365, rfl⟩
abbrev main_call16_v4 : Ref sig .tc := ⟨.hbm, 366, rfl⟩
abbrev main_call16_v5 : Ref sig .tc := ⟨.hbm, 367, rfl⟩
abbrev main_v193 : Ref sig .tc := ⟨.hbm, 368, rfl⟩
abbrev main_v194 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_c_46 : Ref sig .tc := ⟨.hbm, 375, rfl⟩
abbrev main_call17_v0 : Ref sig .tc := ⟨.hbm, 376, rfl⟩
abbrev main_v200 : Ref sig .tc := ⟨.hbm, 377, rfl⟩
abbrev main_v201 : Ref sig .tc := ⟨.hbm, 378, rfl⟩
abbrev main_v202 : Ref sig .tc := ⟨.hbm, 379, rfl⟩
abbrev main_v203 : Ref sig .tc := ⟨.hbm, 380, rfl⟩
abbrev main_v204 : Ref sig .tc := ⟨.hbm, 381, rfl⟩
abbrev main_v205 : Ref sig .tc := ⟨.hbm, 382, rfl⟩
abbrev main_v206 : Ref sig .tc := ⟨.hbm, 383, rfl⟩
abbrev main_cst_47 : Ref sig .tc := ⟨.hbm, 384, rfl⟩
abbrev main_v207 : Ref sig .tc := ⟨.hbm, 385, rfl⟩
abbrev main_v208 : Ref sig .tc := ⟨.hbm, 386, rfl⟩
abbrev main_v209 : Ref sig .tc := ⟨.hbm, 387, rfl⟩
abbrev main_v210 : Ref sig .tc := ⟨.hbm, 388, rfl⟩
abbrev main_v211 : Ref sig .tc := ⟨.hbm, 389, rfl⟩
abbrev main_v212 : Ref sig .tc := ⟨.hbm, 390, rfl⟩
abbrev main_v213 : Ref sig .tc := ⟨.hbm, 391, rfl⟩
abbrev main_v214 : Ref sig .tc := ⟨.hbm, 392, rfl⟩
abbrev main_v215 : Ref sig .tc := ⟨.hbm, 393, rfl⟩
abbrev main_v216 : Ref sig .tc := ⟨.hbm, 394, rfl⟩
abbrev main_v217 : Ref sig .tc := ⟨.hbm, 395, rfl⟩
abbrev main_v218 : Ref sig .tc := ⟨.hbm, 396, rfl⟩
abbrev main_v219 : Ref sig .tc := ⟨.hbm, 397, rfl⟩
abbrev main_v220 : Ref sig .tc := ⟨.hbm, 398, rfl⟩
abbrev main_v221 : Ref sig .tc := ⟨.hbm, 399, rfl⟩
abbrev main_v222 : Ref sig .tc := ⟨.hbm, 400, rfl⟩
abbrev main_v223 : Ref sig .tc := ⟨.hbm, 401, rfl⟩
abbrev main_v224 : Ref sig .tc := ⟨.hbm, 402, rfl⟩
abbrev main_v225 : Ref sig .tc := ⟨.hbm, 403, rfl⟩
abbrev main_v226 : Ref sig .tc := ⟨.hbm, 404, rfl⟩
abbrev main_v227 : Ref sig .tc := ⟨.hbm, 405, rfl⟩
abbrev main_v228 : Ref sig .tc := ⟨.hbm, 406, rfl⟩
abbrev main_v229 : Ref sig .tc := ⟨.hbm, 407, rfl⟩
abbrev main_v230 : Ref sig .tc := ⟨.hbm, 408, rfl⟩
abbrev main_v231 : Ref sig .tc := ⟨.hbm, 409, rfl⟩
abbrev main_v232 : Ref sig .tc := ⟨.hbm, 410, rfl⟩
abbrev main_v233 : Ref sig .tc := ⟨.hbm, 411, rfl⟩
abbrev main_v234 : Ref sig .tc := ⟨.hbm, 412, rfl⟩
abbrev main_v235 : Ref sig .tc := ⟨.hbm, 413, rfl⟩
abbrev main_v236 : Ref sig .tc := ⟨.hbm, 414, rfl⟩
abbrev main_v237 : Ref sig .tc := ⟨.hbm, 415, rfl⟩
abbrev main_v238 : Ref sig .tc := ⟨.hbm, 416, rfl⟩
abbrev main_v239 : Ref sig .tc := ⟨.hbm, 417, rfl⟩
abbrev main_v240 : Ref sig .tc := ⟨.hbm, 418, rfl⟩
abbrev main_v241 : Ref sig .tc := ⟨.hbm, 419, rfl⟩
abbrev main_v242 : Ref sig .tc := ⟨.hbm, 420, rfl⟩
abbrev main_v243 : Ref sig .tc := ⟨.hbm, 421, rfl⟩
abbrev main_v244 : Ref sig .tc := ⟨.hbm, 422, rfl⟩
abbrev main_v245 : Ref sig .tc := ⟨.hbm, 423, rfl⟩
abbrev main_v246 : Ref sig .tc := ⟨.hbm, 424, rfl⟩
abbrev main_v247 : Ref sig .tc := ⟨.hbm, 425, rfl⟩
abbrev main_v248 : Ref sig .tc := ⟨.hbm, 426, rfl⟩
abbrev main_v249 : Ref sig .tc := ⟨.hbm, 427, rfl⟩
abbrev main_v250 : Ref sig .tc := ⟨.hbm, 428, rfl⟩
abbrev main_v251 : Ref sig .tc := ⟨.hbm, 429, rfl⟩
abbrev main_v252 : Ref sig .tc := ⟨.hbm, 430, rfl⟩
abbrev main_v253 : Ref sig .tc := ⟨.hbm, 431, rfl⟩
abbrev main_v254 : Ref sig .tc := ⟨.hbm, 432, rfl⟩
abbrev main_v255 : Ref sig .tc := ⟨.hbm, 433, rfl⟩
abbrev main_v256 : Ref sig .tc := ⟨.hbm, 434, rfl⟩
abbrev main_v257 : Ref sig .tc := ⟨.hbm, 435, rfl⟩
abbrev main_v258 : Ref sig .tc := ⟨.hbm, 436, rfl⟩
abbrev main_v259 : Ref sig .tc := ⟨.hbm, 437, rfl⟩
abbrev main_v260 : Ref sig .tc := ⟨.hbm, 438, rfl⟩
abbrev main_v261 : Ref sig .tc := ⟨.hbm, 439, rfl⟩
abbrev main_v262 : Ref sig .tc := ⟨.hbm, 440, rfl⟩
abbrev main_v263 : Ref sig .tc := ⟨.hbm, 441, rfl⟩
abbrev main_v264 : Ref sig .tc := ⟨.hbm, 442, rfl⟩
abbrev main_cst_48 : Ref sig .tc := ⟨.hbm, 443, rfl⟩
abbrev main_v265 : Ref sig .tc := ⟨.hbm, 444, rfl⟩
abbrev main_v266 : Ref sig .tc := ⟨.hbm, 445, rfl⟩
abbrev main_v267 : Ref sig .tc := ⟨.hbm, 446, rfl⟩
abbrev main_v268 : Ref sig .tc := ⟨.hbm, 447, rfl⟩
abbrev main_v269 : Ref sig .tc := ⟨.hbm, 448, rfl⟩
abbrev main_v270 : Ref sig .tc := ⟨.hbm, 449, rfl⟩
abbrev main_v271 : Ref sig .tc := ⟨.hbm, 450, rfl⟩
abbrev main_v272 : Ref sig .tc := ⟨.hbm, 451, rfl⟩
abbrev main_v273 : Ref sig .tc := ⟨.hbm, 452, rfl⟩
abbrev main_v274 : Ref sig .tc := ⟨.hbm, 453, rfl⟩
abbrev main_v275 : Ref sig .tc := ⟨.hbm, 454, rfl⟩
abbrev main_v276 : Ref sig .tc := ⟨.hbm, 455, rfl⟩
abbrev main_v277 : Ref sig .tc := ⟨.hbm, 456, rfl⟩
abbrev main_cst_49 : Ref sig .tc := ⟨.hbm, 457, rfl⟩
abbrev main_cst_50 : Ref sig .tc := ⟨.hbm, 458, rfl⟩
abbrev main_call18_v0 : Ref sig .tc := ⟨.hbm, 459, rfl⟩
abbrev main_call18_v1 : Ref sig .tc := ⟨.hbm, 460, rfl⟩
abbrev main_call18_v2 : Ref sig .tc := ⟨.hbm, 461, rfl⟩
abbrev main_call18_v3 : Ref sig .tc := ⟨.hbm, 462, rfl⟩
abbrev main_call18_v4 : Ref sig .tc := ⟨.hbm, 463, rfl⟩
abbrev main_v278 : Ref sig .tc := ⟨.hbm, 464, rfl⟩
abbrev main_v279 : Ref sig .tc := ⟨.hbm, 465, rfl⟩
abbrev main_v280 : Ref sig .tc := ⟨.hbm, 466, rfl⟩
abbrev main_cst_51 : Ref sig .tc := ⟨.hbm, 467, rfl⟩
abbrev main_v281 : Ref sig .tc := ⟨.hbm, 468, rfl⟩
abbrev main_v282 : Ref sig .tc := ⟨.hbm, 469, rfl⟩
abbrev main_v283 : Ref sig .tc := ⟨.hbm, 470, rfl⟩
abbrev main_v284 : Ref sig .tc := ⟨.hbm, 471, rfl⟩
abbrev main_v285 : Ref sig .tc := ⟨.hbm, 472, rfl⟩
abbrev main_v286 : Ref sig .tc := ⟨.hbm, 473, rfl⟩
abbrev main_v287 : Ref sig .tc := ⟨.hbm, 474, rfl⟩
abbrev main_v288 : Ref sig .tc := ⟨.hbm, 475, rfl⟩
abbrev main_v289 : Ref sig .tc := ⟨.hbm, 476, rfl⟩
abbrev main_v290 : Ref sig .tc := ⟨.hbm, 477, rfl⟩
abbrev main_v291 : Ref sig .tc := ⟨.hbm, 478, rfl⟩
abbrev main_v292 : Ref sig .tc := ⟨.hbm, 479, rfl⟩
abbrev main_v293 : Ref sig .tc := ⟨.hbm, 480, rfl⟩

abbrev nD : Nat := 1
abbrev τ : Topo := Topo.v7x

variable {F : FTy → Type} [FloatOps F]
-- ==== Proof.Resample.lean ====
/-
  Resampling on the line, over the reals: a signal given at ninety-six knots is read at a position by the straight
  line through the two knots around it. Two spellings are proved equal: picking the segment by counting the knots
  below the position (`lerp`), and summing the whole signal against clamped ramps (`wgt`). Then the knots that a
  positive density gives (`pos`) are shown increasing and to end at ninety-six.
-/
module

public import Idealize.ShloMosaic.PureOps.Ideal
public import Mathlib.Tactic.Ring
public import Mathlib.Tactic.Linarith
public import Mathlib.Tactic.FieldSimp
public import Mathlib.Tactic.Positivity
public import Mathlib.Tactic.NormNum
public import Mathlib.Algebra.BigOperators.Fin
public import Mathlib.Algebra.Order.BigOperators.Group.Finset

@[expose] public section

noncomputable section

namespace Cert.Resample

open Finset

/-- How many of the ninety-six knots lie below `q`. -/
def cnt (k : ℕ → ℝ) (q : ℝ) : ℕ := ((range 96).filter fun w => k w < q).card

/-- The segment `q` is read on: the one that starts at the last knot below it, the first if there is none. -/
def seg (k : ℕ → ℝ) (q : ℝ) : ℕ := min 94 (cnt k q - 1)

/-- Where on its segment `q` lies, `0` at the left knot and `1` at the right one. -/
def par (k : ℕ → ℝ) (q : ℝ) : ℝ := (q - k (seg k q)) / (k (seg k q + 1) - k (seg k q))

/-- The signal `f` read at `q` on the line through the two knots of its segment. -/
def lerp (k : ℕ → ℝ) (q : ℝ) (f : ℕ → ℝ) : ℝ :=
  f (seg k q) + (f (seg k q + 1) - f (seg k q)) * par k q

/-- The length of the segment that starts at knot `w`; one for the last knot, which starts none. -/
def gap (k : ℕ → ℝ) (w : ℕ) : ℝ := if w < 95 then k (w + 1) - k w else 1

/-- The ramp of knot `w` at `q`: zero before the knot, one after its segment; the first ramp is not cut below. -/
def ramp (k : ℕ → ℝ) (q : ℝ) (w : ℕ) : ℝ :=
  if w = 0 then min ((q - k w) * (1 / gap k w)) 1 else max (min ((q - k w) * (1 / gap k w)) 1) 0

/-- The weight of knot `w` at `q`: the difference of the ramp before and its own. -/
def wgt (k : ℕ → ℝ) (q : ℝ) (w : ℕ) : ℝ := (if w = 0 then 1 else ramp k q (w - 1)) - ramp k q w

variable {k : ℕ → ℝ} {q : ℝ}

theorem lt_of_step (hk : ∀ w, w < 95 → k w < k (w + 1)) {a b : ℕ} (hab : a < b) (hb : b < 96) : k a < k b := by
  induction b with
  | zero => omega
  | succ n ih =>
    rcases Nat.lt_succ_iff_lt_or_eq.mp hab with h | h
    · exact (ih h (by omega)).trans (hk n (by omega))
    · subst h; exact hk a (by omega)

/-- With increasing knots, the knots below `q` are the first `cnt` ones. -/
theorem lt_iff_lt_cnt (hk : ∀ w, w < 95 → k w < k (w + 1)) {w : ℕ} (hw : w < 96) : k w < q ↔ w < cnt k q := by
  have hdown : ∀ a b, a ≤ b → b < 96 → k b < q → k a < q := by
    intro a b hab hb h
    rcases Nat.lt_or_eq_of_le hab with h' | h'
    · exact (lt_of_step hk h' hb).trans h
    · subst h'; exact h
  constructor
  · intro h
    have hsub : range (w + 1) ⊆ (range 96).filter fun w => k w < q := by
      intro a ha
      have ha' := mem_range.mp ha
      exact mem_filter.mpr ⟨mem_range.mpr (by omega), hdown a w (by omega) hw h⟩
    have := card_le_card hsub
    rw [card_range] at this
    exact this
  · intro h
    by_contra hn
    have hsub : ((range 96).filter fun w => k w < q) ⊆ range w := by
      intro a ha
      have ha' := mem_filter.mp ha
      refine mem_range.mpr ?_
      by_contra hlt
      exact hn (hdown w a (by omega) (mem_range.mp ha'.1) ha'.2)
    have := card_le_card hsub
    rw [card_range] at this
    have h2 : cnt k q ≤ w := this
    omega

theorem cnt_le (hk : ∀ w, w < 95 → k w < k (w + 1)) (hq : q < k 95) : cnt k q ≤ 95 := by
  by_contra h
  exact absurd ((lt_iff_lt_cnt (q := q) hk (w := 95) (by omega)).mpr (by omega)) (not_lt.mpr hq.le)

theorem seg_eq (hk : ∀ w, w < 95 → k w < k (w + 1)) (hq : q < k 95) : seg k q = cnt k q - 1 := by
  have := cnt_le hk hq
  unfold seg; omega

theorem seg_le : seg k q ≤ 94 := min_le_left _ _

theorem par_le_one (hk : ∀ w, w < 95 → k w < k (w + 1)) (hq : q < k 95) : par k q ≤ 1 := by
  have hs := seg_eq hk hq
  have hle : seg k q ≤ 94 := seg_le
  have h1 : q ≤ k (seg k q + 1) := by
    by_contra h
    have := (lt_iff_lt_cnt (q := q) hk (w := seg k q + 1) (by omega)).mp (not_le.mp h)
    omega
  have hd := hk (seg k q) (by omega)
  unfold par
  rw [div_le_one (by linarith)]
  linarith

theorem par_pos (hk : ∀ w, w < 95 → k w < k (w + 1)) (hq : q < k 95) (hc : 0 < cnt k q) : 0 < par k q := by
  have hs := seg_eq hk hq
  have hle : seg k q ≤ 94 := seg_le
  have h1 := (lt_iff_lt_cnt (q := q) hk (w := seg k q) (by omega)).mpr (by omega)
  have hd := hk (seg k q) (by omega)
  unfold par
  exact div_pos (by linarith) (by linarith)

/-- The ramps at `q`: one on the knots before the segment, the position on it, zero after it. -/
theorem ramp_eq (hk : ∀ w, w < 95 → k w < k (w + 1)) (hq : q < k 95) {w : ℕ} (hw : w < 96) :
    ramp k q w = if w < seg k q then 1 else if w = seg k q then par k q else 0 := by
  have hs := seg_eq hk hq
  have hle : seg k q ≤ 94 := seg_le
  rcases lt_trichotomy w (seg k q) with h | h | h
  · rw [if_pos h]
    have hd := hk w (by omega)
    have h1 := (lt_iff_lt_cnt (q := q) hk (w := w + 1) (by omega)).mpr (by omega)
    have hg : gap k w = k (w + 1) - k w := by unfold gap; rw [if_pos (by omega)]
    have h2 : 1 ≤ (q - k w) * (1 / gap k w) := by
      rw [hg, mul_one_div, le_div_iff₀ (by linarith)]; linarith
    unfold ramp
    rw [min_eq_right h2, max_eq_left zero_le_one]
    exact ite_self _
  · have hlt : ¬ w < seg k q := by omega
    rw [if_neg hlt, if_pos h]
    have hg : gap k w = k (w + 1) - k w := by unfold gap; rw [if_pos (by omega)]
    have hp : (q - k w) * (1 / gap k w) = par k q := by
      rw [hg, mul_one_div, h]; rfl
    unfold ramp
    rw [hp, min_eq_left (par_le_one hk hq)]
    split_ifs with h0
    · rfl
    · exact max_eq_left (par_pos hk hq (by omega)).le
  · have hlt : ¬ w < seg k q := by omega
    have hne : ¬ w = seg k q := by omega
    rw [if_neg hlt, if_neg hne]
    have h1 : q ≤ k w := by
      by_contra hn
      have := (lt_iff_lt_cnt (q := q) hk hw).mp (not_le.mp hn)
      omega
    have hg : 0 < gap k w := by
      unfold gap
      split_ifs with h95
      · have := hk w h95; linarith
      · exact zero_lt_one
    have h2 : (q - k w) * (1 / gap k w) ≤ 0 :=
      mul_nonpos_of_nonpos_of_nonneg (by linarith) (by positivity)
    unfold ramp
    rw [if_neg (by omega), max_eq_right ((min_le_left _ _).trans h2)]

theorem wgt_eq (hk : ∀ w, w < 95 → k w < k (w + 1)) (hq : q < k 95) {w : ℕ} (hw : w < 96) :
    wgt k q w = (if w = seg k q then 1 - par k q else 0) + (if w = seg k q + 1 then par k q else 0) := by
  unfold wgt
  rw [ramp_eq hk hq hw]
  rcases Nat.eq_zero_or_pos w with h0 | h0
  · subst h0
    rw [if_pos rfl]
    by_cases h : 0 < seg k q
    · rw [if_pos h, if_neg (by omega), if_neg (by omega)]; ring
    · rw [if_neg h, if_pos (by omega), if_pos (by omega), if_neg (by omega)]; ring
  · rw [if_neg (by omega), ramp_eq hk hq (w := w - 1) (by omega)]
    by_cases h : w < seg k q
    · rw [if_pos (by omega), if_pos h, if_neg (by omega), if_neg (by omega)]; ring
    · by_cases h' : w = seg k q
      · rw [if_pos (by omega), if_neg h, if_pos h', if_pos h', if_neg (by omega)]; ring
      · by_cases h'' : w = seg k q + 1
        · rw [if_neg (by omega), if_pos (by omega), if_neg h, if_neg h', if_neg h', if_pos h'']; ring
        · rw [if_neg (by omega), if_neg (by omega), if_neg h, if_neg h', if_neg h', if_neg h'']; ring

/-- Summing the signal against the weights reads it at `q`. -/
theorem sum_wgt (hk : ∀ w, w < 95 → k w < k (w + 1)) (hq : q < k 95) (f : ℕ → ℝ) :
    ∑ w ∈ range 96, wgt k q w * f w = lerp k q f := by
  have hle : seg k q ≤ 94 := seg_le
  have h : ∀ w ∈ range 96, wgt k q w * f w
      = (if w = seg k q then (1 - par k q) * f w else 0) + (if w = seg k q + 1 then par k q * f w else 0) := by
    intro w hw
    rw [wgt_eq hk hq (mem_range.mp hw), add_mul, ite_mul, ite_mul, zero_mul]
  rw [sum_congr rfl h, sum_add_distrib, sum_ite_eq', sum_ite_eq', if_pos (mem_range.mpr (by omega)),
    if_pos (mem_range.mpr (by omega))]
  unfold lerp
  ring

/-- The small number that is added to every density, the float nearest `0.001`. -/
def e3 : ℝ := 8589935 / 2 ^ 33

theorem e3_pos : 0 < e3 := by unfold e3; norm_num

/-- The step to knot `w` of the density `s`: its share of forty-eight, and a half. -/
def step (s : ℕ → ℝ) (w : ℕ) : ℝ := 48 / (∑ k ∈ range 96, (s k + e3)) * (s w + e3) + 1 / 2

/-- The knots of the density `s`: the running sums of the steps. -/
def pos (s : ℕ → ℝ) (w : ℕ) : ℝ := ∑ k ∈ range (w + 1), step s k

variable {s : ℕ → ℝ}

theorem total_pos (hs : ∀ w, w < 96 → 0 < s w + e3) : 0 < ∑ k ∈ range 96, (s k + e3) :=
  sum_pos (fun k hk => hs k (mem_range.mp hk)) ⟨0, mem_range.mpr (by norm_num)⟩

theorem step_pos (hs : ∀ w, w < 96 → 0 < s w + e3) {w : ℕ} (hw : w < 96) : 0 < step s w := by
  have h1 := total_pos hs
  have h2 := hs w hw
  unfold step
  positivity

theorem pos_step (hs : ∀ w, w < 96 → 0 < s w + e3) (w : ℕ) (hw : w < 95) : pos s w < pos s (w + 1) := by
  have h : pos s (w + 1) = pos s w + step s (w + 1) := sum_range_succ _ _
  have := step_pos hs (w := w + 1) (by omega)
  linarith

/-- The last knot is ninety-six. -/
theorem pos_last (hs : ∀ w, w < 96 → 0 < s w + e3) : pos s 95 = 96 := by
  have h1 := total_pos hs
  unfold pos step
  rw [sum_add_distrib, ← mul_sum, div_mul_cancel₀ _ h1.ne', sum_const, card_range]
  norm_num

/-- The density read at `q` keeps above zero, if its line past the left end does for one pixel. -/
theorem lerp_pos (hs : ∀ w, w < 96 → 0 < s w + e3) (hl : 0 < 2 * s 0 - s 1 + e3) (hq0 : 0 ≤ q) (hq : q < 96) :
    0 < lerp (pos s) q s + e3 := by
  have hk := pos_step hs
  have hq' : q < pos s 95 := by rw [pos_last hs]; exact hq
  have hle : seg (pos s) q ≤ 94 := seg_le
  have h0 := hs (seg (pos s) q) (by omega)
  have h1 := hs (seg (pos s) q + 1) (by omega)
  have hp := par_le_one hk hq'
  unfold lerp
  rcases Nat.eq_zero_or_pos (cnt (pos s) q) with hc | hc
  · have hs0 : seg (pos s) q = 0 := by rw [seg_eq hk hq', hc]
    rw [hs0] at h0 h1 ⊢
    have ha0 := step_pos hs (w := 0) (by omega)
    have ha1 := step_pos hs (w := 1) (by omega)
    have e0 : pos s 0 = step s 0 := by unfold pos; rw [sum_range_one]
    have e1 : pos s (0 + 1) - pos s 0 = step s 1 := by
      unfold pos; rw [sum_range_succ _ (0 + 1)]; ring
    have hq1 : q ≤ pos s 0 := by
      by_contra hn
      have := (lt_iff_lt_cnt (q := q) hk (w := 0) (by omega)).mp (not_le.mp hn)
      omega
    have hpar : par (pos s) q = (q - step s 0) / step s 1 := by
      unfold par; rw [hs0, e1, e0]
    have hnp : par (pos s) q ≤ 0 := by
      rw [hpar]; exact div_nonpos_of_nonpos_of_nonneg (by linarith) ha1.le
    rcases le_total (s (0 + 1)) (s 0) with h | h
    · nlinarith
    · have hst : step s 0 ≤ step s 1 := by
        have ht := total_pos hs
        unfold step
        have : 0 ≤ 48 / ∑ k ∈ range 96, (s k + e3) := by positivity
        have := mul_le_mul_of_nonneg_left (show s 0 + e3 ≤ s 1 + e3 from by simpa using h) this
        linarith
      have hm1 : -1 ≤ par (pos s) q := by
        rw [hpar, le_div_iff₀ ha1]; linarith
      have h' : s 0 ≤ s 1 := h
      show 0 < s 0 + (s 1 - s 0) * par (pos s) q + e3
      nlinarith
  · have hpp := par_pos hk hq' hc
    nlinarith

end Cert.Resample

end
-- ==== Proof.Model.lean ====
module

public import proofs.«01_k».proof.Proof.Resample

@[expose] public section

/-! The block over the reals, written as the reference writes it: the expanded and clipped features, the gate of the
    pooled features, its bilinear blow-up, the two resampling passes, the three-by-three taps and the projection.
    Images, channels, rows and columns are counted by natural numbers. -/

noncomputable section

namespace Cert.Model

open Finset Cert.Resample

/-- The offset under the square roots. -/
def e5 : ℝ := 10995116 / 2 ^ 40

/-- Five over ninety-five, as the single-precision number nearest to it. -/
def rate : ℝ := 14128182 / 2 ^ 28

theorem e5_pos : 0 < e5 := by unfold e5; norm_num

/-- The arguments, as real arrays; no variance is negative. -/
structure Args where
  x : ℕ → ℕ → ℕ → ℕ → ℝ
  w1 : ℕ → ℕ → ℝ
  g1 : ℕ → ℝ
  b1 : ℕ → ℝ
  m1 : ℕ → ℝ
  v1 : ℕ → ℝ
  sew : ℕ → ℝ
  seb : ℝ
  wd : ℕ → ℕ → ℕ → ℝ
  g2 : ℕ → ℝ
  b2 : ℕ → ℝ
  m2 : ℕ → ℝ
  v2 : ℕ → ℝ
  w2 : ℕ → ℕ → ℝ
  g3 : ℕ → ℝ
  b3 : ℕ → ℝ
  m3 : ℕ → ℝ
  v3 : ℕ → ℝ
  v1_nonneg : ∀ c, 0 ≤ v1 c
  v2_nonneg : ∀ c, 0 ≤ v2 c
  v3_nonneg : ∀ c, 0 ≤ v3 c

/-- The scale of a normalisation. -/
def scale (g v : ℕ → ℝ) (c : ℕ) : ℝ := g c / √(v c + e5)

/-- The clip to `[0, 6]`. -/
def clip6 (t : ℝ) : ℝ := min 6 (max 0 t)

/-- The row of the small map that row `h` of the large one starts from. -/
def i0 (h : ℕ) : ℕ := min 4 (h / 19)

/-- How far row `h` is from it. -/
def fr (h : ℕ) : ℝ := (h : ℝ) * rate - (i0 h : ℝ)

/-- The position of output `j` on its axis. -/
def at2 (j : ℕ) : ℝ := (j : ℝ) * 2

variable (A : Args) (b : ℕ)

/-- The expanded features. -/
def y (c h w : ℕ) : ℝ :=
  clip6 (((∑ i ∈ range 32, A.w1 c i * A.x b i h w) - A.m1 c) * scale A.g1 A.v1 c + A.b1 c)

/-- Their mean over one of the six by six blocks. -/
def pool (c p q : ℕ) : ℝ := (∑ k ∈ range 16, ∑ l ∈ range 16, y A b c (16 * p + k) (16 * q + l)) / 256

/-- The gate before the squashing. -/
def logit (p q : ℕ) : ℝ := (∑ c ∈ range 192, A.sew c * pool A b c p q) + A.seb

/-- The gate. -/
def gate (p q : ℕ) : ℝ := (1 + Real.exp (-logit A b p q))⁻¹

/-- The gate with its rows blown up. -/
def rows (h q : ℕ) : ℝ := gate A b (i0 h) q * (1 - fr h) + gate A b (i0 h + 1) q * fr h

/-- The saliency map: the gate with rows and columns blown up. -/
def se (h w : ℕ) : ℝ := rows A b h (i0 w) * (1 - fr w) + rows A b h (i0 w + 1) * fr w

/-- The knots of row `h`. -/
def knotX (h : ℕ) : ℕ → ℝ := pos (se A b h)

/-- The gated features resampled along the rows. -/
def mf (c h j : ℕ) : ℝ := lerp (knotX A b h) (at2 j) fun w => y A b c h w * se A b h w

/-- The saliency map resampled along the rows. -/
def mm (h j : ℕ) : ℝ := lerp (knotX A b h) (at2 j) (se A b h)

/-- The knots of column `j`. -/
def knotY (j : ℕ) : ℕ → ℝ := pos fun h => mm A b h j

/-- The features resampled along the columns. -/
def ff (c r j : ℕ) : ℝ := lerp (knotY A b j) (at2 r) fun h => mf A b c h j

/-- The resampled features with a border of zeros. -/
def fp (c p q : ℕ) : ℝ := if (1 ≤ p ∧ p ≤ 48) ∧ (1 ≤ q ∧ q ≤ 48) then ff A b c (p - 1) (q - 1) else 0

/-- The three by three taps. -/
def taps (c r j : ℕ) : ℝ := ∑ k ∈ range 3, ∑ l ∈ range 3, fp A b c (r + k) (j + l) * A.wd c k l

/-- The tap sums, normalised and clipped. -/
def mid (c r j : ℕ) : ℝ := clip6 ((taps A b c r j - A.m2 c) * scale A.g2 A.v2 c + A.b2 c)

/-- The projected result. -/
def out (o r j : ℕ) : ℝ :=
  ((∑ c ∈ range 192, A.w2 o c * mid A b c r j) - A.m3 o) * scale A.g3 A.v3 o + A.b3 o

/-- The saliency map, continued one pixel past the left edge, stays above the density's offset. -/
def Open : Prop := ∀ b, b < 16 → ∀ h, h < 96 → 0 < 2 * se A b h 0 - se A b h 1 + e3

/-! ### Signs -/

theorem gate_pos (p q : ℕ) : 0 < gate A b p q := by
  unfold gate; have := Real.exp_pos (-logit A b p q); positivity

theorem gate_le (p q : ℕ) : gate A b p q ≤ 1 := by
  unfold gate
  have := Real.exp_pos (-logit A b p q)
  exact inv_le_one_of_one_le₀ (by linarith)

/-- The part below a row number's rate is the whole number of nineteens. -/
theorem floor_rate (h : ℕ) (hh : h < 96) : ⌊(h : ℝ) * rate⌋ = ((h / 19 : ℕ) : ℤ) := by
  rw [Int.floor_eq_iff]
  have h1 : (h / 19) * 2 ^ 28 ≤ h * 14128182 := by omega
  have h2 : h * 14128182 < (h / 19 + 1) * 2 ^ 28 := by omega
  have h1' : ((h / 19 : ℕ) : ℝ) * 2 ^ 28 ≤ (h : ℝ) * 14128182 := by exact_mod_cast h1
  have h2' : (h : ℝ) * 14128182 < (((h / 19 : ℕ) : ℝ) + 1) * 2 ^ 28 := by exact_mod_cast h2
  unfold rate
  refine ⟨?_, ?_⟩
  · rw [← mul_div_assoc, le_div_iff₀ (by norm_num)]; exact_mod_cast h1
  · rw [← mul_div_assoc, div_lt_iff₀ (by norm_num)]; exact_mod_cast h2

theorem i0_le (h : ℕ) : i0 h ≤ 4 := min_le_left _ _

theorem fr_nonneg (h : ℕ) (hh : h < 96) : 0 ≤ fr h := by
  have h1 : i0 h * 2 ^ 28 ≤ h * 14128182 := by unfold i0; omega
  have h1' : (i0 h : ℝ) * 2 ^ 28 ≤ (h : ℝ) * 14128182 := by exact_mod_cast h1
  unfold fr rate
  rw [sub_nonneg, ← mul_div_assoc, le_div_iff₀ (by norm_num)]
  exact h1'

theorem fr_le (h : ℕ) (hh : h < 96) : fr h ≤ 1 + 1 / 2 ^ 20 := by
  have h1 : h * 14128182 ≤ i0 h * 2 ^ 28 + 2 ^ 28 + 2 ^ 8 := by unfold i0; omega
  have h1' : (h : ℝ) * 14128182 ≤ (i0 h : ℝ) * 2 ^ 28 + 2 ^ 28 + 2 ^ 8 := by exact_mod_cast h1
  unfold fr rate
  rw [← mul_div_assoc, sub_le_iff_le_add, div_le_iff₀ (by norm_num)]
  linarith

/-- A blend of two numbers stays above their least, up to the excess of the fraction. -/
theorem blend_ge {f u v l m : ℝ} (hf : 0 ≤ f) (hf1 : f ≤ 1 + 1 / 2 ^ 20) (hu : l ≤ u) (hv : l ≤ v) (hu' : u ≤ m)
    (hl : l ≤ m) : l - (m - l) / 2 ^ 20 ≤ u * (1 - f) + v * f := by
  rcases le_total f 1 with h | h
  · have h1 : l * (1 - f) ≤ u * (1 - f) := mul_le_mul_of_nonneg_right hu (by linarith)
    have h2 : l * f ≤ v * f := mul_le_mul_of_nonneg_right hv hf
    have h3 : 0 ≤ (m - l) / 2 ^ 20 := div_nonneg (by linarith) (by norm_num)
    nlinarith
  · have h2 : l * f ≤ v * f := mul_le_mul_of_nonneg_right hv hf
    have h1 : (u - l) * (f - 1) ≤ (m - l) * (1 / 2 ^ 20) :=
      mul_le_mul (by linarith) (by linarith) (by linarith) (by linarith)
    have e : (m - l) / 2 ^ 20 = (m - l) * (1 / 2 ^ 20) := by ring
    rw [e]
    nlinarith

theorem blend_le {f u v l m : ℝ} (hf : 0 ≤ f) (hf1 : f ≤ 1 + 1 / 2 ^ 20) (hu : l ≤ u) (hv : v ≤ m) (hu' : u ≤ m)
    (hl : l ≤ m) : u * (1 - f) + v * f ≤ m + (m - l) / 2 ^ 20 := by
  have := blend_ge (u := -u) (v := -v) (l := -m) (m := -l) hf hf1 (by linarith) (by linarith) (by linarith)
    (by linarith)
  have e : (-l - -m) / 2 ^ 20 = (m - l) / (2 : ℝ) ^ 20 := by ring
  rw [e] at this
  linarith

theorem rows_ge (h q : ℕ) (hh : h < 96) : -(1 / 2 ^ 20) ≤ rows A b h q := by
  have := blend_ge (l := 0) (m := 1) (fr_nonneg h hh) (fr_le h hh) (gate_pos A b (i0 h) q).le
    (gate_pos A b (i0 h + 1) q).le (gate_le A b (i0 h) q) (by norm_num)
  unfold rows; linarith

theorem rows_le (h q : ℕ) (hh : h < 96) : rows A b h q ≤ 1 + 1 / 2 ^ 20 := by
  have := blend_le (l := 0) (m := 1) (fr_nonneg h hh) (fr_le h hh) (gate_pos A b (i0 h) q).le
    (gate_le A b (i0 h + 1) q) (gate_le A b (i0 h) q) (by norm_num)
  unfold rows; linarith

/-- The density of the row pass is positive. -/
theorem se_pos (h w : ℕ) (hh : h < 96) (hw : w < 96) : 0 < se A b h w + e3 := by
  have := blend_ge (l := -(1 / 2 ^ 20)) (m := 1 + 1 / 2 ^ 20) (fr_nonneg w hw) (fr_le w hw) (rows_ge A b h (i0 w) hh)
    (rows_ge A b h (i0 w + 1) hh) (rows_le A b h (i0 w) hh) (by norm_num)
  have e : (8589935 : ℝ) / 2 ^ 33 = e3 := rfl
  unfold se
  rw [← e]
  norm_num at this ⊢
  linarith

theorem knotX_step (h : ℕ) (hh : h < 96) (w : ℕ) (hw : w < 95) : knotX A b h w < knotX A b h (w + 1) :=
  pos_step (fun w hw => se_pos A b h w hh hw) w hw

theorem at2_lt (j : ℕ) (hj : j < 48) : at2 j < 96 := by
  have : j * 2 < 96 := by omega
  unfold at2; exact_mod_cast this

theorem at2_nonneg (j : ℕ) : 0 ≤ at2 j := by unfold at2; positivity

theorem at2_lt_knotX (h : ℕ) (hh : h < 96) (j : ℕ) (hj : j < 48) : at2 j < knotX A b h 95 := by
  unfold knotX; rw [pos_last fun w hw => se_pos A b h w hh hw]; exact at2_lt j hj

variable {A b}

/-- The density of the column pass is positive. -/
theorem mm_pos (ho : Open A) (hb : b < 16) (h j : ℕ) (hh : h < 96) (hj : j < 48) : 0 < mm A b h j + e3 :=
  lerp_pos (fun w hw => se_pos A b h w hh hw) (ho b hb h hh) (at2_nonneg j) (at2_lt j hj)

theorem knotY_step (ho : Open A) (hb : b < 16) (j : ℕ) (hj : j < 48) (h : ℕ) (hh : h < 95) :
    knotY A b j h < knotY A b j (h + 1) :=
  pos_step (fun h hh => mm_pos ho hb h j hh hj) h hh

theorem at2_lt_knotY (ho : Open A) (hb : b < 16) (j : ℕ) (hj : j < 48) (r : ℕ) (hr : r < 48) :
    at2 r < knotY A b j 95 := by
  unfold knotY; rw [pos_last fun h hh => mm_pos ho hb h j hh hj]; exact at2_lt r hr

end Cert.Model
-- ==== Proof.Words.lean ====
module

public import proofs.«01_k».proof.Proof.Model
public import Idealize.ShloMosaic.PureOps.Ideal.Laws

@[expose] public section

open Idealize Idealize.ShloMosaic

/-! The literals of the two programs as real numbers, and exact arithmetic on real numbers among the extended ones. -/

namespace Cert.Words

open Cert.Model

theorem w_zero : FloatOps.ofBits (F := Ideal) .f32 0x00000000#32 = ((0 : ℝ) : EReal) := by
  simp [Ideal.ofBits, Ideal.ieee, -EReal.coe_mul]
theorem w_one : FloatOps.ofBits (F := Ideal) .f32 0x3F800000#32 = ((1 : ℝ) : EReal) := by
  simp [Ideal.ofBits, Ideal.ieee, -EReal.coe_mul]; norm_num
theorem w_half : FloatOps.ofBits (F := Ideal) .f32 0x3F000000#32 = ((1 / 2 : ℝ) : EReal) := by
  simp [Ideal.ofBits, Ideal.ieee, -EReal.coe_mul]; norm_num
theorem w_two : FloatOps.ofBits (F := Ideal) .f32 0x40000000#32 = ((2 : ℝ) : EReal) := by
  simp [Ideal.ofBits, Ideal.ieee, -EReal.coe_mul]; norm_num
theorem w_four : FloatOps.ofBits (F := Ideal) .f32 0x40800000#32 = ((4 : ℝ) : EReal) := by
  simp [Ideal.ofBits, Ideal.ieee, -EReal.coe_mul]; norm_num
theorem w_six : FloatOps.ofBits (F := Ideal) .f32 0x40C00000#32 = ((6 : ℝ) : EReal) := by
  simp [Ideal.ofBits, Ideal.ieee, -EReal.coe_mul]; norm_num
theorem w_sixteen : FloatOps.ofBits (F := Ideal) .f32 0x41800000#32 = ((16 : ℝ) : EReal) := by
  simp [Ideal.ofBits, Ideal.ieee, -EReal.coe_mul]; norm_num
theorem w_sixteenth : FloatOps.ofBits (F := Ideal) .f32 0x3D800000#32 = ((1 / 16 : ℝ) : EReal) := by
  simp [Ideal.ofBits, Ideal.ieee, -EReal.coe_mul]; norm_num
theorem w_48 : FloatOps.ofBits (F := Ideal) .f32 0x42400000#32 = ((48 : ℝ) : EReal) := by
  simp [Ideal.ofBits, Ideal.ieee, -EReal.coe_mul]; norm_num
theorem w_256 : FloatOps.ofBits (F := Ideal) .f32 0x43800000#32 = ((256 : ℝ) : EReal) := by
  simp [Ideal.ofBits, Ideal.ieee, -EReal.coe_mul]; norm_num
theorem w_e3 : FloatOps.ofBits (F := Ideal) .f32 0x3A83126F#32 = ((Cert.Resample.e3 : ℝ) : EReal) := by
  simp [Ideal.ofBits, Ideal.ieee, -EReal.coe_mul, Cert.Resample.e3]; norm_num
theorem w_e5 : FloatOps.ofBits (F := Ideal) .f32 0x3727C5AC#32 = ((e5 : ℝ) : EReal) := by
  simp [Ideal.ofBits, Ideal.ieee, -EReal.coe_mul, e5]; norm_num
theorem w_rate : FloatOps.ofBits (F := Ideal) .f32 0x3D579436#32 = ((rate : ℝ) : EReal) := by
  simp [Ideal.ofBits, Ideal.ieee, -EReal.coe_mul, rate]; norm_num

theorem coe_sum (s : Finset ℕ) (f : ℕ → ℝ) : ((∑ k ∈ s, f k : ℝ) : EReal) = ∑ k ∈ s, ((f k : ℝ) : EReal) := by
  induction s using Finset.cons_induction with
  | empty => simp
  | cons a s ha ih => rw [Finset.sum_cons, Finset.sum_cons, EReal.coe_add, ih]

/-- A finite sum of real numbers. -/
theorem sum_coe {n : ℕ} (g : Fin n → EReal) (f : ℕ → ℝ) (h : ∀ k : Fin n, g k = ((f k : ℝ) : EReal)) :
    ∑ k, g k = ((∑ k ∈ Finset.range n, f k : ℝ) : EReal) := by
  rw [Finset.sum_congr rfl fun k _ => h k, coe_sum, Finset.sum_range]

theorem div_real (x : ℝ) {y : ℝ} (h : y ≠ 0) : Ideal.div (x : EReal) (y : EReal) = ((x / y : ℝ) : EReal) := by
  rw [Ideal.div_coe h, ← EReal.coe_mul, mul_one_div]

theorem max_real (x y : ℝ) : max (x : EReal) (y : EReal) = ((max x y : ℝ) : EReal) := (EReal.coe_strictMono.monotone.map_max).symm

theorem min_real (x y : ℝ) : min (x : EReal) (y : EReal) = ((min x y : ℝ) : EReal) := (EReal.coe_strictMono.monotone.map_min).symm

theorem clip_real (x : ℝ) : min ((6 : ℝ) : EReal) (max ((0 : ℝ) : EReal) (x : EReal)) = ((clip6 x : ℝ) : EReal) := by
  rw [max_real, min_real]; rfl

/-- The scale of a normalisation, from its variance. -/
theorem scale_real (g v : ℕ → ℝ) (hv : ∀ c, 0 ≤ v c) (c : ℕ) :
    Ideal.div ((g c : ℝ) : EReal) (Ideal.sqrt (((v c : ℝ) : EReal) + ((e5 : ℝ) : EReal)))
      = ((scale g v c : ℝ) : EReal) := by
  have h : 0 < v c + e5 := by have := hv c; have := e5_pos; linarith
  rw [← EReal.coe_add, Ideal.sqrt_coe, if_neg (not_lt.mpr h.le), div_real _ (Real.sqrt_pos.mpr h).ne']
  rfl

/-- A clamped conversion of a whole number in range. -/
theorem fptosi_nat (n : ℕ) (hn : n < 2 ^ 31) : Ideal.fptosi 32 (((n : ℝ)) : EReal) = BitVec.ofNat 32 n := by
  unfold Ideal.fptosi
  rw [Ideal.toIntClamped_coe, if_pos (by positivity), Int.floor_natCast, ← BitVec.ofInt_natCast]
  congr 1
  norm_num
  omega

/-- The word clips of the small map's row numbers. -/
theorem clip4_word (h : Fin 96) :
    IntOp.minsi 4#32 (IntOp.maxsi 0#32 (BitVec.ofNat 32 (h.val / 19))) = BitVec.ofNat 32 (i0 h.val) := by
  revert h; decide

/-- The word clip of a count of knots less one. -/
theorem clip94_word (n : Fin 97) :
    IntOp.minsi 94#32 (IntOp.maxsi 0#32 (BitVec.ofNat 32 n.val - 1#32)) = BitVec.ofNat 32 (min 94 (n.val - 1)) := by
  revert n; decide

/-- A row number of the small map, read as a gather reads it. -/
theorem take6_word (n : Fin 6) :
    min (Scalar.select (IntOp.cmpi .slt (BitVec.ofNat 32 n.val) 0#32) (BitVec.ofNat 32 n.val + 6#32)
      (BitVec.ofNat 32 n.val)).toInt.toNat (6 - 1) = n.val := by
  revert n; decide

/-- A knot number, read as a gather reads it. -/
theorem take96_word (n : Fin 96) :
    min (Scalar.select (IntOp.cmpi .slt (BitVec.ofNat 32 n.val) 0#32) (BitVec.ofNat 32 n.val + 96#32)
      (BitVec.ofNat 32 n.val)).toInt.toNat (96 - 1) = n.val := by
  revert n; decide

theorem succ_word (n : ℕ) : BitVec.ofNat 32 n + 1#32 = BitVec.ofNat 32 (n + 1) := by
  rw [BitVec.ofNat_add]

/-- A small number's word read back as a real number. -/
theorem toInt_word (n : ℕ) (hn : n < 2 ^ 31) : (((BitVec.ofNat 32 n).toInt : ℤ) : ℝ) = (n : ℝ) := by
  have e : (BitVec.ofNat 32 n).toNat = n := by rw [BitVec.toNat_ofNat]; omega
  rw [BitVec.toInt_eq_toNat_of_lt (by rw [e]; omega), e]
  norm_num

end Cert.Words
-- ==== Proof.Blocks.lean ====
module

public import proofs.«01_k».proof.Proof.Gen.KernelIdeal.Skeleton
public import proofs.«01_k».proof.Proof.Model
public import proofs.«01_k».proof.Proof.Words
public import Idealize.ShloMosaic.Lib.Pointwise

@[expose] public section

open Idealize Idealize.ShloMosaic

/-! The blocks the kernel body reads at one image, as arrays of real numbers, and the words of its literals. -/

noncomputable section

namespace Cert.Blocks

open Cert.KernelIdeal Cert.KernelIdeal.Gen Cert.Model Cert.Words

theorem i_half : Ideal.ofBits .f32 0x3F000000#32 = ((1 / 2 : ℝ) : EReal) := w_half
theorem i_two : Ideal.ofBits .f32 0x40000000#32 = ((2 : ℝ) : EReal) := w_two
theorem i_four : Ideal.ofBits .f32 0x40800000#32 = ((4 : ℝ) : EReal) := w_four
theorem i_six : Ideal.ofBits .f32 0x40C00000#32 = ((6 : ℝ) : EReal) := w_six
theorem i_sixteen : Ideal.ofBits .f32 0x41800000#32 = ((16 : ℝ) : EReal) := w_sixteen
theorem i_sixteenth : Ideal.ofBits .f32 0x3D800000#32 = ((1 / 16 : ℝ) : EReal) := w_sixteenth
theorem i_48 : Ideal.ofBits .f32 0x42400000#32 = ((48 : ℝ) : EReal) := w_48
theorem i_e3 : Ideal.ofBits .f32 0x3A83126F#32 = ((Cert.Resample.e3 : ℝ) : EReal) := w_e3
theorem i_rate : Ideal.ofBits .f32 0x3D579436#32 = ((rate : ℝ) : EReal) := w_rate

/-- A small number's word as a float. -/
theorem float_nat (n : ℕ) (hn : n < 2 ^ 31) :
    (FloatOps.sitofp (F := Ideal) .f32 (BitVec.ofNat 32 n) : EReal) = ((n : ℝ) : EReal) := by
  show ((((BitVec.ofNat 32 n).toInt : ℝ)) : EReal) = _
  rw [toInt_word n hn]

theorem real_ite (p : Prop) [Decidable p] (x y : ℝ) :
    (if p then (x : EReal) else (y : EReal)) = ((if p then x else y : ℝ) : EReal) := by
  split_ifs <;> rfl

theorem one_div_real {y : ℝ} (h : y ≠ 0) : Ideal.div (1 : EReal) (y : EReal) = ((1 / y : ℝ) : EReal) := by
  rw [← EReal.coe_one, div_real 1 h]

theorem nat_eq_iff (m n : ℕ) : (((m : ℝ) : EReal) = ((n : ℝ) : EReal)) ↔ m = n := by
  rw [EReal.coe_eq_coe_iff, Nat.cast_inj]

variable (A : Args) (b : ℕ)

/-- The image. -/
def u0 : Vec Ideal S1x32x96x96 .f32 := fun i => ((A.x b (i 1).val (i 2).val (i 3).val : ℝ) : EReal)
/-- The expansion's weights, scaled. -/
def u1 : Vec Ideal S32x192 .f32 := fun i => ((A.w1 (i 1).val (i 0).val * scale A.g1 A.v1 (i 1).val : ℝ) : EReal)
/-- Its offsets. -/
def u2 : Vec Ideal S1x192 .f32 := fun i =>
  ((A.b1 (i 1).val - A.m1 (i 1).val * scale A.g1 A.v1 (i 1).val : ℝ) : EReal)
/-- The gate's weights. -/
def u3 : Vec Ideal S1x192 .f32 := fun i => ((A.sew (i 1).val : ℝ) : EReal)
/-- The gate's offset. -/
def u4 : Vec Ideal S1x1 .f32 := fun _ => ((A.seb : ℝ) : EReal)
/-- The taps, scaled. -/
def u5 : Vec Ideal S9x192 .f32 := fun i =>
  ((A.wd (i 1).val ((i 0).val / 3) ((i 0).val % 3) * scale A.g2 A.v2 (i 1).val : ℝ) : EReal)
/-- The tap sums' offsets. -/
def u6 : Vec Ideal S1x192 .f32 := fun i =>
  ((A.b2 (i 1).val - A.m2 (i 1).val * scale A.g2 A.v2 (i 1).val : ℝ) : EReal)
/-- The projection's weights, scaled. -/
def u7 : Vec Ideal S192x64 .f32 := fun i => ((A.w2 (i 1).val (i 0).val * scale A.g3 A.v3 (i 1).val : ℝ) : EReal)
/-- Its offsets. -/
def u8 : Vec Ideal S1x64 .f32 := fun i =>
  ((A.b3 (i 1).val - A.m3 (i 1).val * scale A.g3 A.v3 (i 1).val : ℝ) : EReal)
/-- The upper triangle of ones. -/
def u9 : Vec Ideal S96x96 .f32 := fun i => ((if (i 0).val ≤ (i 1).val then 1 else 0 : ℝ) : EReal)
/-- The lower triangle of ones. -/
def u10 : Vec Ideal S96x96 .f32 := fun i => ((if (i 1).val ≤ (i 0).val then 1 else 0 : ℝ) : EReal)

end Cert.Blocks
-- ==== Proof.KerGate.lean ====
module

public import proofs.«01_k».proof.Proof.Blocks

@[expose] public section

open Idealize Idealize.ShloMosaic

/-! The body's features, gate and saliency map. -/

noncomputable section

namespace Cert.KerGate

open Cert.KernelIdeal Cert.KernelIdeal.Gen Cert.Model Cert.Words Cert.Blocks

variable (A : Args) (b : ℕ)

/-- Folding the scale into the weights. -/
theorem fold_scale (n : ℕ) (w x : ℕ → ℝ) (m s t : ℝ) :
    (∑ i ∈ Finset.range n, x i * (w i * s)) + (t - m * s) = ((∑ i ∈ Finset.range n, w i * x i) - m) * s + t := by
  have e : ∑ i ∈ Finset.range n, x i * (w i * s) = (∑ i ∈ Finset.range n, w i * x i) * s := by
    rw [Finset.sum_mul]; exact Finset.sum_congr rfl fun i _ => by ring
  rw [e]; ring

/-- The features. -/
theorem feat (h w : Fin 96) (c : Fin 192) :
    k0_pay2 (u0 A b) (u1 A) (u2 A) (ix3 h w c) = ((y A b c.val h.val w.val : ℝ) : EReal) := by
  pointwise [k0_pay2]
  rw [sum_coe (n := 32) (fun k => u0 A b (ix4 0 k h w) * u1 A (ix2 k c))
    (fun k => A.x b k h.val w.val * (A.w1 c.val k * scale A.g1 A.v1 c.val)) (fun k => (EReal.coe_mul _ _).symm),
    i_six, show u2 A (ix2 0 c) = ((A.b1 c.val - A.m1 c.val * scale A.g1 A.v1 c.val : ℝ) : EReal) from rfl,
    ← EReal.coe_add, fold_scale, ← EReal.coe_zero, clip_real]
  rfl

/-- Cutting a sum into blocks of sixteen. -/
theorem sum_blocks (n : ℕ) (f : ℕ → ℝ) :
    ∑ i ∈ Finset.range (n * 16), f i = ∑ p ∈ Finset.range n, ∑ k ∈ Finset.range 16, f (16 * p + k) := by
  induction n with
  | zero => simp
  | succ n ih =>
    rw [Nat.succ_mul, Finset.sum_range_add, ih, Finset.sum_range_succ _ n, Nat.mul_comm n 16]

/-- Averaging one block of sixteen. -/
theorem sum_cell (p : ℕ) (hp : p < 6) (f : ℕ → ℝ) :
    ∑ i ∈ Finset.range 96, (if i / 16 = p then 1 / 16 else 0) * f i
      = (∑ k ∈ Finset.range 16, f (16 * p + k)) / 16 := by
  rw [show (96 : ℕ) = 6 * 16 from rfl, sum_blocks, Finset.sum_div]
  have e : ∀ p' ∈ Finset.range 6, (∑ k ∈ Finset.range 16, (if (16 * p' + k) / 16 = p then 1 / 16 else 0) * f (16 * p' + k))
      = if p' = p then ∑ k ∈ Finset.range 16, f (16 * p + k) / 16 else 0 := by
    intro p' _
    split_ifs with h
    · subst h
      refine Finset.sum_congr rfl fun k hk => ?_
      rw [Finset.mem_range] at hk
      rw [if_pos (by omega)]; ring
    · refine Finset.sum_eq_zero fun k hk => ?_
      rw [Finset.mem_range] at hk
      rw [if_neg (by omega), zero_mul]
  rw [Finset.sum_congr rfl e, Finset.sum_ite_eq' , if_pos (Finset.mem_range.mpr hp)]

/-- The entry of the averaging matrix. -/
theorem cell (n p : ℕ) (hn : n < 96) (hp : p < 6) :
    (if Ideal.liftRound Int.floor (Ideal.div (FloatOps.sitofp (F := Ideal) .f32 (BitVec.ofNat 32 n)) (Ideal.ofBits .f32 0x41800000#32))
        = FloatOps.sitofp (F := Ideal) .f32 (BitVec.ofNat 32 p) then Ideal.ofBits .f32 0x3D800000#32 else 0)
      = ((if n / 16 = p then 1 / 16 else 0 : ℝ) : EReal) := by
  have e : ⌊(n : ℝ) / 16⌋ = ((n / 16 : ℕ) : ℤ) := by
    rw [Int.floor_eq_iff]
    have h1 : ((n / 16 : ℕ) : ℝ) * 16 ≤ (n : ℝ) := by exact_mod_cast Nat.div_mul_le_self n 16
    have h2 : (n : ℝ) < (((n / 16 : ℕ) : ℝ) + 1) * 16 := by
      have : n < (n / 16 + 1) * 16 := by omega
      exact_mod_cast this
    rw [Int.cast_natCast]
    constructor
    · rw [le_div_iff₀ (by norm_num)]; exact h1
    · rw [div_lt_iff₀ (by norm_num)]; exact h2
  rw [float_nat n (by omega), float_nat p (by omega), i_sixteen, i_sixteenth, div_real _ (by norm_num),
    Ideal.liftRound_coe, e, ← EReal.coe_zero, ← real_ite]
  have e2 : ((((n / 16 : ℕ) : ℤ) : ℝ) : EReal) = (((n / 16 : ℕ) : ℝ) : EReal) := by rw [Int.cast_natCast]
  rw [e2]
  simp only [nat_eq_iff]

/-- The averages, weighed and summed over the channels, in the two orders. -/
theorem pool_sum (p q : ℕ) (hp : p < 6) (hq : q < 6) :
    (∑ w ∈ Finset.range 96, (∑ h ∈ Finset.range 96, (if h / 16 = p then 1 / 16 else 0)
        * ∑ c ∈ Finset.range 192, y A b c h w * A.sew c) * (if w / 16 = q then 1 / 16 else 0)) + A.seb
      = logit A b p q := by
  have e : ∀ w ∈ Finset.range 96, (∑ h ∈ Finset.range 96, (if h / 16 = p then 1 / 16 else 0)
        * ∑ c ∈ Finset.range 192, y A b c h w * A.sew c) * (if w / 16 = q then 1 / 16 else 0)
      = (if w / 16 = q then 1 / 16 else 0) * ((∑ k ∈ Finset.range 16, ∑ c ∈ Finset.range 192, y A b c (16 * p + k) w * A.sew c) / 16) := by
    intro w _
    rw [sum_cell p hp fun h => ∑ c ∈ Finset.range 192, y A b c h w * A.sew c, mul_comm]
  rw [Finset.sum_congr rfl e, sum_cell q hq fun w => (∑ k ∈ Finset.range 16, ∑ c ∈ Finset.range 192, y A b c (16 * p + k) w * A.sew c) / 16]
  unfold logit Cert.Model.pool
  congr 1
  rw [← Finset.sum_div, Finset.sum_comm (s := Finset.range 16) (t := Finset.range 16)]
  simp only [Finset.sum_comm (s := Finset.range 16) (t := Finset.range 192)]
  rw [Finset.sum_div, Finset.sum_div]
  refine Finset.sum_congr rfl fun c _ => ?_
  simp only [← Finset.sum_mul]
  ring

/-- The gate. -/
theorem squash (p q : Fin 6) :
    k0_pay3 (u0 A b) (u1 A) (u2 A) (u3 A) (u4 A) (ix2 p q) = ((gate A b p.val q.val : ℝ) : EReal) := by
  pointwise [k0_pay3]
  have inner : ∀ h w : Fin 96, ∑ c : Fin 192, k0_pay2 (u0 A b) (u1 A) (u2 A) (ix3 h w c) * u3 A (ix2 0 c)
      = ((∑ c ∈ Finset.range 192, y A b c h.val w.val * A.sew c : ℝ) : EReal) := fun h w =>
    sum_coe _ (fun c => y A b c h.val w.val * A.sew c)
      fun c => (congrArg (fun t => t * u3 A (ix2 0 c)) (feat A b h w c)).trans (EReal.coe_mul _ _).symm
  refine (congrArg (fun t => Ideal.logistic (t + u4 A (ix2 0 0))) (sum_coe (n := 96) _
    (fun w => (∑ h ∈ Finset.range 96, (if h / 16 = p.val then 1 / 16 else 0)
        * ∑ c ∈ Finset.range 192, y A b c h w * A.sew c) * (if w / 16 = q.val then 1 / 16 else 0)) fun w => ?_)).trans ?_
  · rw [EReal.coe_mul]
    refine congrArg₂ (· * ·) (sum_coe (n := 96) _ _ fun h => ?_) (cell w.val q.val w.isLt q.isLt)
    rw [EReal.coe_mul]
    exact congrArg₂ (· * ·) (cell h.val p.val h.isLt p.isLt) (inner h w)
  · show Ideal.logistic (_ + ((A.seb : ℝ) : EReal)) = _
    rw [← EReal.coe_add, pool_sum A b p.val q.val p.isLt q.isLt, Ideal.logistic_coe]
    rfl

/-- A coordinate of the small map, rounded down and clipped. -/
theorem low (n : ℕ) (hn : n < 96) :
    min (Ideal.ofBits .f32 0x40800000#32) (max 0 (Ideal.liftRound Int.floor
      (FloatOps.sitofp (F := Ideal) .f32 (BitVec.ofNat 32 n) * Ideal.ofBits .f32 0x3D579436#32)))
      = ((i0 n : ℝ) : EReal) := by
  rw [float_nat n (by omega), i_rate, ← EReal.coe_mul, Ideal.liftRound_coe, floor_rate n hn, i_four, ← EReal.coe_zero,
    max_real, min_real, Int.cast_natCast]
  unfold i0
  congr 1
  rw [max_eq_right (by positivity)]
  push_cast
  rfl

/-- The entry of the blow-up matrix. -/
theorem tent (n m : ℕ) (hn : n < 96) (hm : m < 6) :
    (if FloatOps.sitofp (F := Ideal) .f32 (BitVec.ofNat 32 m) = ((i0 n : ℝ) : EReal) then
        1 - (FloatOps.sitofp (F := Ideal) .f32 (BitVec.ofNat 32 n) * Ideal.ofBits .f32 0x3D579436#32 - ((i0 n : ℝ) : EReal)) else 0)
      + (if FloatOps.sitofp (F := Ideal) .f32 (BitVec.ofNat 32 m) = ((i0 n : ℝ) : EReal) + 1 then
        FloatOps.sitofp (F := Ideal) .f32 (BitVec.ofNat 32 n) * Ideal.ofBits .f32 0x3D579436#32 - ((i0 n : ℝ) : EReal) else 0)
      = (((if m = i0 n then 1 - fr n else 0) + (if m = i0 n + 1 then fr n else 0) : ℝ) : EReal) := by
  have e : ((i0 n : ℝ) : EReal) + 1 = (((i0 n + 1 : ℕ) : ℝ) : EReal) := by
    rw [← EReal.coe_one, ← EReal.coe_add]; push_cast; rfl
  rw [float_nat n (by omega), float_nat m (by omega), i_rate, e, ← EReal.coe_mul, ← EReal.coe_sub, ← EReal.coe_one,
    ← EReal.coe_sub, ← EReal.coe_zero, real_ite, real_ite, ← EReal.coe_add]
  simp only [nat_eq_iff]
  rfl

/-- Summing against a row of the blow-up matrix. -/
theorem sum_tent (n : ℕ) (f : ℕ → ℝ) :
    ∑ m ∈ Finset.range 6, ((if m = i0 n then 1 - fr n else 0) + (if m = i0 n + 1 then fr n else 0)) * f m
      = f (i0 n) * (1 - fr n) + f (i0 n + 1) * fr n := by
  have h := i0_le n
  simp only [add_mul, ite_mul, zero_mul]
  rw [Finset.sum_add_distrib, Finset.sum_ite_eq', Finset.sum_ite_eq', if_pos (Finset.mem_range.mpr (by omega)),
    if_pos (Finset.mem_range.mpr (by omega))]
  ring

/-- The saliency map. -/
theorem blow (v : FVec Ideal S6x6 .f32) (hv : ∀ p q : Fin 6, v (ix2 p q) = ((gate A b p.val q.val : ℝ) : EReal))
    (h w : Fin 96) : k0_pay4 v (ix2 h w) = ((se A b h.val w.val : ℝ) : EReal) := by
  pointwise [k0_pay4]
  simp only [low h.val h.isLt, low w.val w.isLt]
  refine (sum_coe (n := 6) _
    (fun q => (∑ p ∈ Finset.range 6, ((if p = i0 h.val then 1 - fr h.val else 0) + (if p = i0 h.val + 1 then fr h.val else 0))
        * gate A b p q) * ((if q = i0 w.val then 1 - fr w.val else 0) + (if q = i0 w.val + 1 then fr w.val else 0)))
    fun q => ?_).trans ?_
  · rw [EReal.coe_mul]
    refine congrArg₂ (· * ·) (sum_coe (n := 6) _ _ fun p => ?_) (tent w.val q.val w.isLt q.isLt)
    rw [EReal.coe_mul]
    exact congrArg₂ (· * ·) (tent h.val p.val h.isLt p.isLt) (hv p q)
  · simp only [sum_tent h.val fun p => gate A b p _]
    refine congrArg _ ?_
    refine Eq.trans (Finset.sum_congr rfl fun q _ => mul_comm _ _) ?_
    rw [sum_tent w.val fun q => gate A b (i0 h.val) q * (1 - fr h.val) + gate A b (i0 h.val + 1) q * fr h.val]
    rfl

end Cert.KerGate
-- ==== Proof.KerRow.lean ====
module

public import proofs.«01_k».proof.Proof.KerGate

@[expose] public section

open Idealize Idealize.ShloMosaic

/-! The body's pass along the rows. -/

noncomputable section

namespace Cert.KerRow

open Cert.KernelIdeal Cert.KernelIdeal.Gen Cert.Model Cert.Words Cert.Blocks Cert.KerGate
open Cert.Resample

/-- Summing against a column of the upper triangle of ones is summing up to the diagonal. -/
theorem sum_tri (f : ℕ → ℝ) (w : ℕ) (hw : w < 96) :
    ∑ k ∈ Finset.range 96, f k * (if k ≤ w then 1 else 0) = ∑ k ∈ Finset.range (w + 1), f k := by
  rw [show (96 : ℕ) = (w + 1) + (95 - w) from by omega, Finset.sum_range_add]
  rw [Finset.sum_eq_zero (s := Finset.range (95 - w)) fun k _ => by rw [if_neg (by omega), mul_zero], add_zero]
  refine Finset.sum_congr rfl fun k hk => ?_
  rw [Finset.mem_range] at hk
  rw [if_pos (by omega), mul_one]

/-- A ramp, as the body writes it. -/
theorem ramp_real (k : ℕ → ℝ) (hk : ∀ w, w < 95 → k w < k (w + 1)) (q : ℝ) (w : ℕ) (hw : w < 96) :
    (if FloatOps.sitofp (F := Ideal) .f32 (BitVec.ofNat 32 w) = 0 then
        min (((q : EReal) - ((k w : ℝ) : EReal)) * Ideal.div 1 (if w < 95 then ((k (1 + w) : ℝ) : EReal) - ((k w : ℝ) : EReal) else 1)) 1
      else
        max (min (((q : EReal) - ((k w : ℝ) : EReal)) * Ideal.div 1 (if w < 95 then ((k (1 + w) : ℝ) : EReal) - ((k w : ℝ) : EReal) else 1)) 1) 0)
      = ((ramp k q w : ℝ) : EReal) := by
  have hg : gap k w ≠ 0 := by
    unfold gap
    split_ifs with h
    · exact (sub_pos.mpr (hk w h)).ne'
    · exact one_ne_zero
  have e : (if w < 95 then ((k (1 + w) : ℝ) : EReal) - ((k w : ℝ) : EReal) else 1) = ((gap k w : ℝ) : EReal) := by
    rw [← EReal.coe_one, ← EReal.coe_sub, real_ite, Nat.add_comm 1 w]; rfl
  have e0 : ((FloatOps.sitofp (F := Ideal) .f32 (BitVec.ofNat 32 w) : EReal) = 0) ↔ w = 0 := by
    rw [float_nat w (by omega), ← EReal.coe_zero, ← Nat.cast_zero, nat_eq_iff]
  rw [e, one_div_real hg, ← EReal.coe_sub, ← EReal.coe_mul]
  simp only [e0]
  rw [← EReal.coe_one, min_real, ← EReal.coe_zero, max_real, real_ite]
  rfl

/-- A weight, as the body writes it. -/
theorem wgt_real (k : ℕ → ℝ) (q : ℝ) (w : ℕ) :
    ((if w < 1 then 1 else ((ramp k q (w - 1) : ℝ) : EReal)) - ((ramp k q w : ℝ) : EReal)) = ((wgt k q w : ℝ) : EReal) := by
  rw [← EReal.coe_one, real_ite, ← EReal.coe_sub]
  simp only [Nat.lt_one_iff]
  rfl

variable (A : Args) (b : ℕ)

/-- A row's knots. -/
theorem knots (v : FVec Ideal S6x6 .f32) (hv : ∀ p q : Fin 6, v (ix2 p q) = ((gate A b p.val q.val : ℝ) : EReal))
    (h w : Fin 96) : k0_pay5 v u9 (ix2 h w) = ((knotX A b h.val w.val : ℝ) : EReal) := by
  have hp : (∑ k ∈ Finset.range 96, (se A b h.val k + e3) : ℝ) ≠ 0 :=
    (total_pos fun w hw => se_pos A _ _ w h.isLt hw).ne'
  pointwise [k0_pay5]
  simp only [blow A b v hv, i_e3, i_48, i_half, ← EReal.coe_add]
  rw [sum_coe (n := 96) (fun k => ((se A b h.val k.val + e3 : ℝ) : EReal)) (fun k => se A b h.val k + e3) (fun k => rfl),
    div_real 48 hp]
  refine (sum_coe (n := 96) _ (fun k => step (se A b h.val) k * (if k ≤ w.val then 1 else 0)) fun k => ?_).trans ?_
  · rw [← EReal.coe_mul, ← EReal.coe_add, EReal.coe_mul (step _ _)]
    rfl
  · rw [sum_tri _ _ w.isLt]; rfl

/-- The sampling positions. -/
theorem place (j : Fin 48) : (k0_pay6 (F := Ideal) (ix3 0 j 0) : EReal) * k0_pay7 (F := Ideal) (ix3 0 j 0) = ((at2 j.val : ℝ) : EReal) := by
  have e : (k0_pay6 (F := Ideal) (ix3 0 j 0) : EReal) = ((j.val : ℝ) : EReal) := by
    pointwise [k0_pay6]
    exact float_nat j.val (by omega)
  have e2 : (k0_pay7 (F := Ideal) (ix3 0 j 0) : EReal) = ((2 : ℝ) : EReal) := by
    pointwise [k0_pay7]
    exact i_two
  rw [e, e2, ← EReal.coe_mul]
  rfl

/-- The weights of a row, times the saliency. -/
theorem weights (vs vk : FVec Ideal S96x96 .f32) (v79 v80 : FVec Ideal S1x48x1 .f32)
    (hs : ∀ h w : Fin 96, vs (ix2 h w) = ((se A b h.val w.val : ℝ) : EReal))
    (hk : ∀ h w : Fin 96, vk (ix2 h w) = ((knotX A b h.val w.val : ℝ) : EReal))
    (hq : ∀ j : Fin 48, v79 (ix3 0 j 0) * v80 (ix3 0 j 0) = ((at2 j.val : ℝ) : EReal))
    (h w : Fin 96) (j : Fin 48) :
    k0_pay8 vs vk v79 v80 (ix3 h j w) = ((wgt (knotX A b h.val) (at2 j.val) w.val * se A b h.val w.val : ℝ) : EReal) := by
  pointwise [k0_pay8]
  simp only [hs, hk, hq, dite_eq_ite]
  rw [ramp_real _ (knotX_step A b h.val h.isLt) (at2 j.val) w.val w.isLt,
    ramp_real _ (knotX_step A b h.val h.isLt) (at2 j.val) (w.val - 1) (by omega), wgt_real, ← EReal.coe_mul]

/-- The features, resampled along the rows. -/
theorem pass (vy : FVec Ideal S96x96x192 .f32) (vs vk : FVec Ideal S96x96 .f32) (v79 v80 : FVec Ideal S1x48x1 .f32)
    (hy : ∀ (h w : Fin 96) (c : Fin 192), vy (ix3 h w c) = ((y A b c.val h.val w.val : ℝ) : EReal))
    (hs : ∀ h w : Fin 96, vs (ix2 h w) = ((se A b h.val w.val : ℝ) : EReal))
    (hk : ∀ h w : Fin 96, vk (ix2 h w) = ((knotX A b h.val w.val : ℝ) : EReal))
    (hq : ∀ j : Fin 48, v79 (ix3 0 j 0) * v80 (ix3 0 j 0) = ((at2 j.val : ℝ) : EReal))
    (h : Fin 96) (j : Fin 48) (c : Fin 192) :
    k0_pay9 vy vs vk v79 v80 (ix3 h j c) = ((mf A b c.val h.val j.val : ℝ) : EReal) := by
  pointwise [k0_pay9]
  simp only [hy, weights A b vs vk v79 v80 hs hk hq]
  refine (sum_coe (n := 96) _ (fun w => wgt (knotX A b h.val) (at2 j.val) w * (y A b c.val h.val w * se A b h.val w))
    fun w => ?_).trans ?_
  · rw [← EReal.coe_mul]; congr 1; ring
  · rw [sum_wgt (knotX_step A b h.val h.isLt) (at2_lt_knotX A b h.val h.isLt j.val j.isLt)]
    rfl

/-- The increments of a column's knots. -/
theorem density (ho : Open A) (hb : b < 16) (vs vk : FVec Ideal S96x96 .f32) (v79 v80 : FVec Ideal S1x48x1 .f32)
    (hs : ∀ h w : Fin 96, vs (ix2 h w) = ((se A b h.val w.val : ℝ) : EReal))
    (hk : ∀ h w : Fin 96, vk (ix2 h w) = ((knotX A b h.val w.val : ℝ) : EReal))
    (hq : ∀ j : Fin 48, v79 (ix3 0 j 0) * v80 (ix3 0 j 0) = ((at2 j.val : ℝ) : EReal))
    (h : Fin 96) (j : Fin 48) :
    k0_pay10 vs vk v79 v80 (ix2 h j) = ((step (fun h => mm A b h j.val) h.val : ℝ) : EReal) := by
  have hp : (∑ k ∈ Finset.range 96, (mm A b k j.val + e3) : ℝ) ≠ 0 :=
    (total_pos (s := fun h => mm A b h j.val) fun h hh => mm_pos ho hb h j.val hh j.isLt).ne'
  pointwise [k0_pay10]
  have e : ∀ h : Fin 96, ∑ w : Fin 96, k0_pay8 vs vk v79 v80 (ix3 h j w) = ((mm A b h.val j.val : ℝ) : EReal) := by
    intro h
    rw [sum_coe (n := 96) _ (fun w => wgt (knotX A b h.val) (at2 j.val) w * se A b h.val w)
      fun w => weights A b vs vk v79 v80 hs hk hq h w j,
      sum_wgt (knotX_step A b h.val h.isLt) (at2_lt_knotX A b h.val h.isLt j.val j.isLt)]
    rfl
  simp only [e, i_e3, i_48, i_half, ← EReal.coe_add]
  rw [sum_coe (n := 96) (fun k => ((mm A b k.val j.val + e3 : ℝ) : EReal)) (fun k => mm A b k j.val + e3) (fun k => rfl),
    div_real 48 hp, ← EReal.coe_mul, ← EReal.coe_add]
  rfl

end Cert.KerRow
-- ==== Proof.KerCol.lean ====
module

public import proofs.«01_k».proof.Proof.KerRow

@[expose] public section

open Idealize Idealize.ShloMosaic

/-! The body's pass along the columns. -/

noncomputable section

namespace Cert.KerCol

open Cert.KernelIdeal Cert.KernelIdeal.Gen Cert.Model Cert.Words Cert.Blocks Cert.KerGate Cert.KerRow
open Cert.Resample

variable (A : Args) (b : ℕ)

/-- A column's knots. -/
theorem knots (va : FVec Ideal S96x48 .f32)
    (ha : ∀ (h : Fin 96) (j : Fin 48), va (ix2 h j) = ((step (fun h => mm A b h j.val) h.val : ℝ) : EReal))
    (h : Fin 96) (j : Fin 48) :
    ∑ x : Fin 96, (u10 (ix2 h x) : EReal) * va (ix2 x j) = ((knotY A b j.val h.val : ℝ) : EReal) := by
  refine (sum_coe (n := 96) _ (fun k => step (fun h => mm A b h j.val) k * (if k ≤ h.val then 1 else 0)) fun k => ?_).trans ?_
  · rw [ha, mul_comm (step _ _), EReal.coe_mul]
    rfl
  · rw [sum_tri _ _ h.isLt]; rfl

/-- A column of the features, resampled, with its border of zeros. -/
def edged (c r p : ℕ) : ℝ := if 1 ≤ p ∧ p ≤ 48 then ff A b c r (p - 1) else 0

/-- The features, resampled along the columns. -/
theorem pass (ho : Open A) (hb : b < 16) (vm : FVec Ideal S96x48x192 .f32) (va : FVec Ideal S96x48 .f32)
    (hm : ∀ (h : Fin 96) (j : Fin 48) (c : Fin 192), vm (ix3 h j c) = ((mf A b c.val h.val j.val : ℝ) : EReal))
    (ha : ∀ (h : Fin 96) (j : Fin 48), va (ix2 h j) = ((step (fun h => mm A b h j.val) h.val : ℝ) : EReal))
    (p : Fin 50) (r : Fin 48) (c : Fin 192) :
    k0_pay11 vm va u10 (ix3 p r c) = ((edged A b c.val r.val p.val : ℝ) : EReal) := by
  pointwise [k0_pay11]
  simp only [knots A b va ha, hm, dite_eq_ite, i_two, float_nat r.val (by omega), ← EReal.coe_mul]
  unfold edged
  by_cases h1 : p.val < 1
  · rw [if_pos h1, if_neg (by omega), EReal.coe_zero]
  rw [if_neg h1]
  by_cases h2 : p.val - 1 < 48
  · rw [if_pos h2, if_pos (by omega)]
    have hk := knotY_step ho hb (p.val - 1) h2
    refine (sum_coe (n := 96) _ (fun h => wgt (knotY A b (p.val - 1)) (at2 r.val) h * mf A b c.val h (p.val - 1))
      fun h => ?_).trans ?_
    · rw [show ((r.val : ℝ) * 2 : ℝ) = at2 r.val from rfl, ramp_real _ hk (at2 r.val) h.val h.isLt, ramp_real _ hk (at2 r.val) (h.val - 1) (by omega),
        wgt_real, ← EReal.coe_mul]
    · rw [sum_wgt hk (at2_lt_knotY ho hb (p.val - 1) h2 r.val r.isLt)]
      rfl
  · rw [if_neg h2, if_neg (by omega), EReal.coe_zero]

end Cert.KerCol
-- ==== Proof.KerTaps.lean ====
module

public import proofs.«01_k».proof.Proof.KerCol
public import Idealize.ShloMosaic.Lib.Pipeline.ValueKit.Tiles

@[expose] public section

open Idealize Idealize.ShloMosaic

/-! The body's taps and its projection. -/

noncomputable section

namespace Cert.KerTaps

open Cert.KernelIdeal Cert.KernelIdeal.Gen Cert.Model Cert.Words Cert.Blocks Cert.KerGate Cert.KerCol

variable (A : Args) (b : ℕ)

/-- The bordered map, read in its second row. -/
theorem fp_edged (c r q : ℕ) (hr : r < 48) : Cert.Model.fp A b c (r + 1) q = edged A b c r q := by
  unfold Cert.Model.fp edged
  rw [Nat.add_sub_cancel]
  exact if_congr ⟨fun h => h.2, fun h => ⟨⟨by omega, by omega⟩, h⟩⟩ rfl rfl

/-- In its first. -/
theorem fp_edged_up (c r q : ℕ) (hr : r < 48) :
    Cert.Model.fp A b c r q = if r < 1 then 0 else edged A b c (r - 1) q := by
  by_cases h : r < 1
  · rw [if_pos h]; unfold Cert.Model.fp; rw [if_neg (by omega)]
  · rw [if_neg h, ← fp_edged A b c (r - 1) q (by omega), Nat.sub_add_cancel (by omega)]

/-- In its third. -/
theorem fp_edged_down (c r q : ℕ) :
    Cert.Model.fp A b c (r + 2) q = if r < 47 then edged A b c (1 + r) q else 0 := by
  by_cases h : r < 47
  · rw [if_pos h, ← fp_edged A b c (1 + r) q (by omega)]; congr 1; omega
  · rw [if_neg h]; unfold Cert.Model.fp; rw [if_neg (by omega)]

/-- One row of the taps, scaled. -/
def line (c k r j : ℕ) : ℝ :=
  edged A b c r j * (A.wd c k 0 * scale A.g2 A.v2 c) + edged A b c r (1 + j) * (A.wd c k 1 * scale A.g2 A.v2 c)
    + edged A b c r (2 + j) * (A.wd c k 2 * scale A.g2 A.v2 c)

/-- The three rows of scaled taps, shifted into place, and their offset. -/
theorem taps_lines (c r j : ℕ) (hr : r < 48) :
    line A b c 1 r j + (if r < 1 then 0 else line A b c 0 (r - 1) j) + (if r < 47 then line A b c 2 (1 + r) j else 0)
        + (A.b2 c - A.m2 c * scale A.g2 A.v2 c)
      = (taps A b c r j - A.m2 c) * scale A.g2 A.v2 c + A.b2 c := by
  have e : ∀ k, Cert.Model.fp A b c (r + k) (j + 0) = Cert.Model.fp A b c (r + k) j := fun k => rfl
  unfold taps
  simp only [Finset.sum_range_succ, Finset.sum_range_zero, zero_add, e, Nat.add_comm j 1, Nat.add_comm j 2]
  simp only [fp_edged A b c r _ hr, fp_edged_down, show r + 0 = r from rfl, fp_edged_up A b c r _ hr]
  unfold line
  by_cases h1 : r < 1
  · by_cases h2 : r < 47
    · simp only [if_pos h1, if_pos h2]; ring
    · simp only [if_pos h1, if_neg h2]; ring
  · by_cases h2 : r < 47
    · simp only [if_neg h1, if_pos h2]; ring
    · simp only [if_neg h1, if_neg h2]; ring

/-- A row of the scaled taps. -/
def tap (k l : ℕ) : Vec Ideal S1x192 .f32 := fun i =>
  ((A.wd (i 1).val k l * scale A.g2 A.v2 (i 1).val : ℝ) : EReal)

/-- A row of the scaled taps, loaded by itself. -/
theorem tap_row (k l : ℕ) (hl : l < 3) (off : Fin 2 → ℕ) (hoff : off = ![3 * k + l, 0]) (inb) :
    View.ld (u5 A) (Rect.unit (s := S9x192) off S1x192.size inb) = tap A k l := by
  subst hoff
  have hlt : 3 * k + l < 9 := by have := inb 0; simpa using this
  funext x
  have hx : (x 0).val = 0 := Nat.lt_one_iff.mp (x 0).isLt
  refine (View.ld_unit_apply_of (u5 A) _ _ inb x (ix2 (⟨3 * k + l, hlt⟩ : Fin 9) (x 1)) ?_).trans ?_
  · intro a
    fin_cases a
    · exact (congrArg ((3 * k + l) + ·) hx).symm
    · exact (Nat.zero_add _).symm
  · show ((A.wd (x 1).val ((3 * k + l) / 3) ((3 * k + l) % 3) * scale A.g2 A.v2 (x 1).val : ℝ) : EReal) = _
    rw [show (3 * k + l) / 3 = k from by omega, show (3 * k + l) % 3 = l from by omega]
    rfl

/-- The projected result, from the bordered columns and the nine rows of taps. -/
theorem project (v : FVec Ideal S50x48x192 .f32) (t : ℕ → ℕ → FVec Ideal S1x192 .f32) (d : FVec Ideal S48x48x192 .f32)
    (hv : ∀ (p : Fin 50) (r : Fin 48) (c : Fin 192), v (ix3 p r c) = ((edged A b c.val r.val p.val : ℝ) : EReal))
    (ht : ∀ k < 3, ∀ l < 3, ∀ c : Fin 192, t k l (ix2 0 c) = ((A.wd c.val k l * scale A.g2 A.v2 c.val : ℝ) : EReal))
    (hd : ∀ (p r : Fin 48) (c : Fin 192),
      d (ix3 p r c) = ((edged A b c.val r.val p.val * (A.wd c.val 0 0 * scale A.g2 A.v2 c.val) : ℝ) : EReal))
    (o : Fin 64) (r j : Fin 48) :
    k0_pay1 v (k0_pay13 v d (t 0 1) (t 0 2)) (k0_pay14 v (t 1 0) (t 1 1) (t 1 2)) (k0_pay15 v (t 2 0)) (k0_pay16 v (t 2 1))
        (t 2 2) (u6 A) (u7 A) (u8 A) (ix4 0 o r j)
      = ((out A b o.val r.val j.val : ℝ) : EReal) := by
  have h13 : ∀ (p r : Fin 48) (c : Fin 192), k0_pay13 v d (t 0 1) (t 0 2) (ix3 p r c)
      = ((line A b c.val 0 r.val p.val : ℝ) : EReal) := by
    intro p r c
    pointwise [k0_pay13]
    simp only [hv, hd, ht 0 (by omega) 1 (by omega), ht 0 (by omega) 2 (by omega), ← EReal.coe_mul, ← EReal.coe_add]
    rfl
  have h14 : ∀ (p r : Fin 48) (c : Fin 192), k0_pay14 v (t 1 0) (t 1 1) (t 1 2) (ix3 p r c)
      = ((line A b c.val 1 r.val p.val : ℝ) : EReal) := by
    intro p r c
    pointwise [k0_pay14]
    simp only [hv, ht 1 (by omega) 0 (by omega), ht 1 (by omega) 1 (by omega), ht 1 (by omega) 2 (by omega),
      ← EReal.coe_mul, ← EReal.coe_add]
    rfl
  have h15 : ∀ (p r : Fin 48) (c : Fin 192), k0_pay15 v (t 2 0) (ix3 p r c)
      = ((edged A b c.val r.val p.val * (A.wd c.val 2 0 * scale A.g2 A.v2 c.val) : ℝ) : EReal) := by
    intro p r c
    pointwise [k0_pay15]
    simp only [hv, ht 2 (by omega) 0 (by omega), ← EReal.coe_mul]
  have h16 : ∀ (p r : Fin 48) (c : Fin 192), k0_pay16 v (t 2 1) (ix3 p r c)
      = ((edged A b c.val r.val (1 + p.val) * (A.wd c.val 2 1 * scale A.g2 A.v2 c.val) : ℝ) : EReal) := by
    intro p r c
    pointwise [k0_pay16]
    simp only [hv, ht 2 (by omega) 1 (by omega), ← EReal.coe_mul]
  pointwise [k0_pay1]
  simp only [h13, h14, h15, h16, hv, ht 2 (by omega) 2 (by omega), i_six, dite_eq_ite]
  refine (congrArg (· + u8 A (ix2 0 o)) (sum_coe (n := 192) _
    (fun c => mid A b c r.val j.val * (A.w2 o.val c * scale A.g3 A.v3 o.val)) fun c => ?_)).trans ?_
  · refine (congrArg₂ (fun s t : EReal => s * t) (x' := ((mid A b c.val r.val j.val : ℝ) : EReal)) ?_ rfl).trans
      (EReal.coe_mul _ _).symm
    unfold mid
    rw [← taps_lines A b c.val r.val j.val r.isLt]
    rw [show u6 A (ix2 0 c) = ((A.b2 c.val - A.m2 c.val * scale A.g2 A.v2 c.val : ℝ) : EReal) from rfl]
    simp only [← EReal.coe_mul, ← EReal.coe_add]
    rw [show (0 : EReal) = ((0 : ℝ) : EReal) from rfl, real_ite, real_ite, ← EReal.coe_add, ← EReal.coe_add, ← EReal.coe_add, clip_real]
    rfl
  · show (_ + ((A.b3 o.val - A.m3 o.val * scale A.g3 A.v3 o.val : ℝ) : EReal) : EReal) = _
    rw [← EReal.coe_add, fold_scale 192 (fun c => A.w2 o.val c) (fun c => mid A b c r.val j.val)]
    rfl

end Cert.KerTaps
-- ==== Proof.KerOut.lean ====
module

public import proofs.«01_k».proof.Proof.KerTaps
public import proofs.«01_k».proof.Proof.Gen.KernelIdeal.Frame
public import Idealize.ShloMosaic.Lib.Pipeline.ValueKit.Basic

@[expose] public section

open Idealize Idealize.ShloMosaic

/-! One image's result, from its operands. -/

noncomputable section

namespace Cert.KerOut

open Cert.KernelIdeal Cert.KernelIdeal.Gen Cert.Model Cert.Words Cert.Blocks Cert.KerGate Cert.KerTaps

variable {A : Args} {b : ℕ}

/-- What the body leaves of one image. -/
theorem image (ho : Open A) (hb : b < 16) (o : Fin 64) (r j : Fin 48) :
    out0_11 (u0 A b) (u1 A) (u2 A) (u3 A) (u4 A) (u5 A) (u6 A) (u7 A) (u8 A) u9 u10 (ix4 0 o r j)
      = ((out A b o.val r.val j.val : ℝ) : EReal) := by
  have z4 : (![0, 0, 0, 0] : Fin 4 → ℕ) = fun _ => 0 := by decide
  have z2 : (![0, 0] : Fin 2 → ℕ) = fun _ => 0 := by decide
  unfold_out out0_11
  refine (congrFun (View.canon_unit_zero z4 _ _) _).trans ?_
  rw [show View.ld (u0 A b) r0_0 = u0 A b from View.ld_unit_zero z4 _ _,
    show View.ld (u1 A) r0_1 = u1 A from View.ld_unit_zero z2 _ _,
    show View.ld (u2 A) r0_2 = u2 A from View.ld_unit_zero z2 _ _,
    show View.ld (u3 A) r0_2 = u3 A from View.ld_unit_zero z2 _ _,
    show View.ld (u4 A) r0_3 = u4 A from View.ld_unit_zero z2 _ _,
    show View.ld (u6 A) r0_2 = u6 A from View.ld_unit_zero z2 _ _,
    show View.ld (u7 A) r0_14 = u7 A from View.ld_unit_zero z2 _ _,
    show View.ld (u8 A) r0_15 = u8 A from View.ld_unit_zero z2 _ _,
    show View.ld u9 r0_4 = u9 from View.ld_unit_zero z2 _ _,
    show View.ld u10 r0_4 = u10 from View.ld_unit_zero z2 _ _,
    show View.ld (u5 A) r0_5 = tap A 0 0 from tap_row A 0 0 (by decide) _ rfl _,
    show View.ld (u5 A) r0_6 = tap A 0 1 from tap_row A 0 1 (by decide) _ rfl _,
    show View.ld (u5 A) r0_7 = tap A 0 2 from tap_row A 0 2 (by decide) _ rfl _,
    show View.ld (u5 A) r0_8 = tap A 1 0 from tap_row A 1 0 (by decide) _ rfl _,
    show View.ld (u5 A) r0_9 = tap A 1 1 from tap_row A 1 1 (by decide) _ rfl _,
    show View.ld (u5 A) r0_10 = tap A 1 2 from tap_row A 1 2 (by decide) _ rfl _,
    show View.ld (u5 A) r0_11 = tap A 2 0 from tap_row A 2 0 (by decide) _ rfl _,
    show View.ld (u5 A) r0_12 = tap A 2 1 from tap_row A 2 1 (by decide) _ rfl _,
    show View.ld (u5 A) r0_13 = tap A 2 2 from tap_row A 2 2 (by decide) _ rfl _]
  have hg := squash A b
  have hs := blow A b _ hg
  have hk := KerRow.knots A b _ hg
  have hm := KerRow.pass A b _ _ _ _ _ (feat A b) hs hk KerRow.place
  have ha := KerRow.density A b ho hb _ _ _ _ hs hk KerRow.place
  have hv := KerCol.pass A b ho hb _ _ hm ha
  refine project A b _ (tap A) _ hv (fun k _ l _ c => rfl) (fun p r c => ?_) o r j
  pointwise [k0_pay12]
  rw [hv, EReal.coe_mul]
  rfl

end Cert.KerOut
-- ==== Proof.Lift.lean ====
module

public import proofs.«01_k».proof.Proof.Model
public import Idealize.ShloMosaic.PureOps.Ideal

@[expose] public section

open Idealize Idealize.ShloMosaic

/-! The arguments of the programs as arrays of extended reals. -/

noncomputable section

namespace Cert.Model.Args

variable (A : Args)

def a0 : FVec Ideal ⟨4, ![16, 32, 96, 96]⟩ .f32 := fun i => ((A.x (i 0).val (i 1).val (i 2).val (i 3).val : ℝ) : EReal)
def a1 : FVec Ideal ⟨2, ![192, 32]⟩ .f32 := fun i => ((A.w1 (i 0).val (i 1).val : ℝ) : EReal)
def a2 : FVec Ideal ⟨1, ![192]⟩ .f32 := fun i => ((A.g1 (i 0).val : ℝ) : EReal)
def a3 : FVec Ideal ⟨1, ![192]⟩ .f32 := fun i => ((A.b1 (i 0).val : ℝ) : EReal)
def a4 : FVec Ideal ⟨1, ![192]⟩ .f32 := fun i => ((A.m1 (i 0).val : ℝ) : EReal)
def a5 : FVec Ideal ⟨1, ![192]⟩ .f32 := fun i => ((A.v1 (i 0).val : ℝ) : EReal)
def a6 : FVec Ideal ⟨2, ![1, 192]⟩ .f32 := fun i => ((A.sew (i 1).val : ℝ) : EReal)
def a7 : FVec Ideal ⟨1, ![1]⟩ .f32 := fun _ => ((A.seb : ℝ) : EReal)
def a8 : FVec Ideal ⟨4, ![192, 1, 3, 3]⟩ .f32 := fun i => ((A.wd (i 0).val (i 2).val (i 3).val : ℝ) : EReal)
def a9 : FVec Ideal ⟨1, ![192]⟩ .f32 := fun i => ((A.g2 (i 0).val : ℝ) : EReal)
def a10 : FVec Ideal ⟨1, ![192]⟩ .f32 := fun i => ((A.b2 (i 0).val : ℝ) : EReal)
def a11 : FVec Ideal ⟨1, ![192]⟩ .f32 := fun i => ((A.m2 (i 0).val : ℝ) : EReal)
def a12 : FVec Ideal ⟨1, ![192]⟩ .f32 := fun i => ((A.v2 (i 0).val : ℝ) : EReal)
def a13 : FVec Ideal ⟨2, ![64, 192]⟩ .f32 := fun i => ((A.w2 (i 0).val (i 1).val : ℝ) : EReal)
def a14 : FVec Ideal ⟨1, ![64]⟩ .f32 := fun i => ((A.g3 (i 0).val : ℝ) : EReal)
def a15 : FVec Ideal ⟨1, ![64]⟩ .f32 := fun i => ((A.b3 (i 0).val : ℝ) : EReal)
def a16 : FVec Ideal ⟨1, ![64]⟩ .f32 := fun i => ((A.m3 (i 0).val : ℝ) : EReal)
def a17 : FVec Ideal ⟨1, ![64]⟩ .f32 := fun i => ((A.v3 (i 0).val : ℝ) : EReal)

end Cert.Model.Args
-- ==== Proof.KerHost.lean ====
module

public import proofs.«01_k».proof.Proof.KerOut
public import proofs.«01_k».proof.Proof.Lift

@[expose] public section

open Idealize Idealize.ShloMosaic

/-! What the host hands the kernel. -/

noncomputable section

namespace Cert.KerHost

open Cert.KernelIdeal Cert.KernelIdeal.Gen Cert.Model Cert.Words Cert.Blocks

/-- The arguments, as launched, are the real numbers `A`. -/
structure Launched (A : Args) (m : (ℓ : Loc nD τ sig) → Buf (Elt Ideal) ℓ) (c : Dev nD) : Prop where
  h0 : m (c, Proc.tc.devRef main_arg0) = A.a0
  h1 : m (c, Proc.tc.devRef main_arg1) = A.a1
  h2 : m (c, Proc.tc.devRef main_arg2) = A.a2
  h3 : m (c, Proc.tc.devRef main_arg3) = A.a3
  h4 : m (c, Proc.tc.devRef main_arg4) = A.a4
  h5 : m (c, Proc.tc.devRef main_arg5) = A.a5
  h6 : m (c, Proc.tc.devRef main_arg6) = A.a6
  h7 : m (c, Proc.tc.devRef main_arg7) = A.a7
  h8 : m (c, Proc.tc.devRef main_arg8) = A.a8
  h9 : m (c, Proc.tc.devRef main_arg9) = A.a9
  h10 : m (c, Proc.tc.devRef main_arg10) = A.a10
  h11 : m (c, Proc.tc.devRef main_arg11) = A.a11
  h12 : m (c, Proc.tc.devRef main_arg12) = A.a12
  h13 : m (c, Proc.tc.devRef main_arg13) = A.a13
  h14 : m (c, Proc.tc.devRef main_arg14) = A.a14
  h15 : m (c, Proc.tc.devRef main_arg15) = A.a15
  h16 : m (c, Proc.tc.devRef main_arg16) = A.a16
  h17 : m (c, Proc.tc.devRef main_arg17) = A.a17

variable {A : Args} {m : (ℓ : Loc nD τ sig) → Buf (Elt Ideal) ℓ} {c : Dev nD}

/-- A scale, as the host computes it. -/
theorem scale_host (g v : ℕ → ℝ) (hv : ∀ c, 0 ≤ v c) (c : ℕ) :
    Ideal.div ((g c : ℝ) : EReal) (Ideal.sqrt (((v c : ℝ) : EReal) + Ideal.ofBits FTy.f32 925353388#32))
      = ((scale g v c : ℝ) : EReal) := by
  rw [show Ideal.ofBits FTy.f32 925353388#32 = ((e5 : ℝ) : EReal) from w_e5]
  exact scale_real g v hv c

/-- An offset, folded. -/
theorem offset_real (a b s : ℝ) : (a : EReal) - (b : EReal) * (s : EReal) = ((a - b * s : ℝ) : EReal) := by
  rw [EReal.coe_sub, EReal.coe_mul]

/-- A comparison of two counts, as a number. -/
theorem le_float (k i : ℕ) (hk : k < 2 ^ 31) (hi : i < 2 ^ 31) :
    (FloatOps.uitofp (F := Ideal) FTy.f32 (BitVec.ofBool (decide
        ((FloatOps.sitofp (F := Ideal) FTy.f32 (BitVec.ofNat 32 k) : EReal) ≤ FloatOps.sitofp (F := Ideal) FTy.f32 (BitVec.ofNat 32 i)))) : EReal)
      = ((if k ≤ i then 1 else 0 : ℝ) : EReal) := by
  rw [float_nat k hk, float_nat i hi]
  simp only [EReal.coe_le_coe_iff, Nat.cast_le]
  show ((((BitVec.ofBool (decide (k ≤ i))).toNat : ℕ) : ℝ) : EReal) = _
  by_cases h : k ≤ i
  · simp [h]
  · simp [h]

variable (L : Launched A m c)
include L

/-- The expansion's weights. -/
theorem v7 : (V m c main_v7 : Vec Ideal S32x192 .f32) = u1 A := by
  funext i
  rw [eq_ix2 i]
  simp only [V, hostOps0]; after_results
  pointwise []
  rw [L.h1, L.h2, L.h5]
  refine (congrArg (fun s : EReal => _ * s) (scale_host A.g1 A.v1 A.v1_nonneg _)).trans ?_
  exact (EReal.coe_mul _ _).symm

/-- The expansion's offsets. -/
theorem v10 : (V m c main_v10 : Vec Ideal S1x192 .f32) = u2 A := by
  funext i
  rw [eq_ix2 i]
  simp only [V, hostOps0]; after_results
  pointwise []
  rw [L.h3, L.h4, L.h2, L.h5]
  refine (congrArg (fun s : EReal => _ - _ * s) (scale_host A.g1 A.v1 A.v1_nonneg _)).trans ?_
  exact offset_real _ _ _

/-- The squeeze's offset. -/
theorem v11 : (V m c main_v11 : Vec Ideal S1x1 .f32) = u4 A := by
  funext i
  rw [eq_ix2 i]
  simp only [V, hostOps0]; after_results
  pointwise []
  rw [L.h7]
  rfl

/-- The taps. -/
theorem v21 : (V m c main_v21 : Vec Ideal S9x192 .f32) = u5 A := by
  funext i
  rw [eq_ix2 i]
  simp only [V, hostOps0]; after_results
  pointwise []
  rw [L.h8, L.h9, L.h12]
  refine (congrArg (fun s : EReal => _ * s) (scale_host A.g2 A.v2 A.v2_nonneg _)).trans ?_
  exact (EReal.coe_mul _ _).symm

/-- The taps' offsets. -/
theorem v24 : (V m c main_v24 : Vec Ideal S1x192 .f32) = u6 A := by
  funext i
  rw [eq_ix2 i]
  simp only [V, hostOps0]; after_results
  pointwise []
  rw [L.h10, L.h11, L.h9, L.h12]
  refine (congrArg (fun s : EReal => _ - _ * s) (scale_host A.g2 A.v2 A.v2_nonneg _)).trans ?_
  exact offset_real _ _ _

/-- The projection's weights. -/
theorem v32 : (V m c main_v32 : Vec Ideal S192x64 .f32) = u7 A := by
  funext i
  rw [eq_ix2 i]
  simp only [V, hostOps0]; after_results
  pointwise []
  rw [L.h13, L.h14, L.h17]
  refine (congrArg (fun s : EReal => _ * s) (scale_host A.g3 A.v3 A.v3_nonneg _)).trans ?_
  exact (EReal.coe_mul _ _).symm

/-- The projection's offsets. -/
theorem v35 : (V m c main_v35 : Vec Ideal S1x64 .f32) = u8 A := by
  funext i
  rw [eq_ix2 i]
  simp only [V, hostOps0]; after_results
  pointwise []
  rw [L.h15, L.h16, L.h14, L.h17]
  refine (congrArg (fun s : EReal => _ - _ * s) (scale_host A.g3 A.v3 A.v3_nonneg _)).trans ?_
  exact offset_real _ _ _

omit L
/-- The upper triangle of ones. -/
theorem v42 : (V m c main_v42 : Vec Ideal S96x96 .f32) = u9 := by
  funext i
  rw [eq_ix2 i]
  simp only [V, hostOps0]; after_results
  pointwise []
  exact le_float _ _ (by omega) (by omega)

/-- The lower triangle of ones. -/
theorem v43 : (V m c main_v43 : Vec Ideal S96x96 .f32) = u10 := by
  funext i
  rw [eq_ix2 i]
  simp only [V, hostOps0]; after_results
  pointwise []
  exact le_float _ _ (by omega) (by omega)

end Cert.KerHost
-- ==== Proof.KerArray.lean ====
module

public import proofs.«01_k».proof.Proof.KerHost
public import proofs.«01_k».proof.Proof.Gen.KernelIdeal.Value

@[expose] public section

open Idealize Idealize.ShloMosaic Idealize.ShloMosaic.TcCoe
open Idealize.SL Idealize.SL.Sem

/-! The array the kernel leaves. -/

noncomputable section

namespace Cert.KerArray

open Cert.KernelIdeal Cert.KernelIdeal.Gen Cert.KernelIdeal.Value Cert.Model Cert.Words Cert.Blocks Cert.KerHost

variable {A : Args} {m : (ℓ : Loc nD τ sig) → Buf (Elt Ideal) ℓ} {c : Dev nD}

/-- Each point takes its own image. -/
theorem index_in : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- And leaves it in the same place. -/
theorem index_out : ∀ t : Fin cfg0.N, win0_11.index t 0 = t.val ∧ win0_11.index t 1 = 0 ∧ win0_11.index t 2 = 0 ∧ win0_11.index t 3 = 0 :=
  (by decide +kernel : ∀ t : Fin grid0.N, win0_11.index t 0 = t.val ∧ win0_11.index t 1 = 0 ∧ win0_11.index t 2 = 0 ∧ win0_11.index t 3 = 0)

variable (L : Launched A m c)

include L in
/-- The image of a point. -/
theorem block0 (t : Fin cfg0.N) : (iblk m c 0 t : Vec Ideal S1x32x96x96 .f32) = u0 A t.val := by
  obtain ⟨e0, e1, e2, e3⟩ := index_in t
  funext j
  have hj : (j 0).val = 0 := Nat.lt_one_iff.mp (j 0).isLt
  unfold iblk
  rw [View.read_apply]
  show V m c main_arg0 _ = _
  rw [V_main_arg0]
  refine (congrFun L.h0 _).trans ?_
  show ((A.x (win0_0.index t 0 * 1 + 1 * (j 0).val) (win0_0.index t 1 * 32 + 1 * (j 1).val)
    (win0_0.index t 2 * 96 + 1 * (j 2).val) (win0_0.index t 3 * 96 + 1 * (j 3).val) : ℝ) : EReal) = _
  rw [e0, e1, e2, e3, hj]
  simp only [Nat.zero_mul, Nat.zero_add, Nat.mul_one, Nat.mul_zero, Nat.add_zero, Nat.one_mul]
  rfl

include L in
/-- Operand 1. -/
theorem block1 (t : Fin cfg0.N) : (iblk m c 1 t : Vec Ideal S32x192 .f32) = u1 A := by
  funext j
  unfold iblk
  rw [View.read_apply]
  show V m c main_v7 _ = _
  refine (congrFun (v7 L) _).trans (congrArg (u1 A) ?_)
  funext a
  apply Fin.ext
  match a with
  | ⟨0, _⟩ => show 0 * 32 + 1 * (j 0).val = (j 0).val; omega
  | ⟨1, _⟩ => show 0 * 192 + 1 * (j 1).val = (j 1).val; omega

include L in
/-- Operand 2. -/
theorem block2 (t : Fin cfg0.N) : (iblk m c 2 t : Vec Ideal S1x192 .f32) = u2 A := by
  funext j
  unfold iblk
  rw [View.read_apply]
  show V m c main_v10 _ = _
  refine (congrFun (v10 L) _).trans (congrArg (u2 A) ?_)
  funext a
  apply Fin.ext
  match a with
  | ⟨0, _⟩ => show 0 * 1 + 1 * (j 0).val = (j 0).val; omega
  | ⟨1, _⟩ => show 0 * 192 + 1 * (j 1).val = (j 1).val; omega

include L in
/-- Operand 3. -/
theorem block3 (t : Fin cfg0.N) : (iblk m c 3 t : Vec Ideal S1x192 .f32) = u3 A := by
  funext j
  unfold iblk
  rw [View.read_apply]
  show V m c main_arg6 _ = _
  rw [V_main_arg6]
  refine (congrFun L.h6 _).trans ?_
  show ((A.sew (0 * 192 + 1 * (j 1).val) : ℝ) : EReal) = ((A.sew (j 1).val : ℝ) : EReal)
  simp only [Nat.zero_mul, Nat.zero_add, Nat.one_mul]

include L in
/-- Operand 4. -/
theorem block4 (t : Fin cfg0.N) : (iblk m c 4 t : Vec Ideal S1x1 .f32) = u4 A := by
  funext j
  unfold iblk
  rw [View.read_apply]
  show V m c main_v11 _ = _
  refine (congrFun (v11 L) _).trans (congrArg (u4 A) ?_)
  funext a
  apply Fin.ext
  match a with
  | ⟨0, _⟩ => show 0 * 1 + 1 * (j 0).val = (j 0).val; omega
  | ⟨1, _⟩ => show 0 * 1 + 1 * (j 1).val = (j 1).val; omega

include L in
/-- Operand 5. -/
theorem block5 (t : Fin cfg0.N) : (iblk m c 5 t : Vec Ideal S9x192 .f32) = u5 A := by
  funext j
  unfold iblk
  rw [View.read_apply]
  show V m c main_v21 _ = _
  refine (congrFun (v21 L) _).trans (congrArg (u5 A) ?_)
  funext a
  apply Fin.ext
  match a with
  | ⟨0, _⟩ => show 0 * 9 + 1 * (j 0).val = (j 0).val; omega
  | ⟨1, _⟩ => show 0 * 192 + 1 * (j 1).val = (j 1).val; omega

include L in
/-- Operand 6. -/
theorem block6 (t : Fin cfg0.N) : (iblk m c 6 t : Vec Ideal S1x192 .f32) = u6 A := by
  funext j
  unfold iblk
  rw [View.read_apply]
  show V m c main_v24 _ = _
  refine (congrFun (v24 L) _).trans (congrArg (u6 A) ?_)
  funext a
  apply Fin.ext
  match a with
  | ⟨0, _⟩ => show 0 * 1 + 1 * (j 0).val = (j 0).val; omega
  | ⟨1, _⟩ => show 0 * 192 + 1 * (j 1).val = (j 1).val; omega

include L in
/-- Operand 7. -/
theorem block7 (t : Fin cfg0.N) : (iblk m c 7 t : Vec Ideal S192x64 .f32) = u7 A := by
  funext j
  unfold iblk
  rw [View.read_apply]
  show V m c main_v32 _ = _
  refine (congrFun (v32 L) _).trans (congrArg (u7 A) ?_)
  funext a
  apply Fin.ext
  match a with
  | ⟨0, _⟩ => show 0 * 192 + 1 * (j 0).val = (j 0).val; omega
  | ⟨1, _⟩ => show 0 * 64 + 1 * (j 1).val = (j 1).val; omega

include L in
/-- Operand 8. -/
theorem block8 (t : Fin cfg0.N) : (iblk m c 8 t : Vec Ideal S1x64 .f32) = u8 A := by
  funext j
  unfold iblk
  rw [View.read_apply]
  show V m c main_v35 _ = _
  refine (congrFun (v35 L) _).trans (congrArg (u8 A) ?_)
  funext a
  apply Fin.ext
  match a with
  | ⟨0, _⟩ => show 0 * 1 + 1 * (j 0).val = (j 0).val; omega
  | ⟨1, _⟩ => show 0 * 64 + 1 * (j 1).val = (j 1).val; omega

/-- Operand 9. -/
theorem block9 (t : Fin cfg0.N) : (iblk m c 9 t : Vec Ideal S96x96 .f32) = u9 := by
  funext j
  unfold iblk
  rw [View.read_apply]
  show V m c main_v42 _ = _
  refine (congrFun v42 _).trans (congrArg u9 ?_)
  funext a
  apply Fin.ext
  match a with
  | ⟨0, _⟩ => show 0 * 96 + 1 * (j 0).val = (j 0).val; omega
  | ⟨1, _⟩ => show 0 * 96 + 1 * (j 1).val = (j 1).val; omega

/-- Operand 10. -/
theorem block10 (t : Fin cfg0.N) : (iblk m c 10 t : Vec Ideal S96x96 .f32) = u10 := by
  funext j
  unfold iblk
  rw [View.read_apply]
  show V m c main_v43 _ = _
  refine (congrFun v43 _).trans (congrArg u10 ?_)
  funext a
  apply Fin.ext
  match a with
  | ⟨0, _⟩ => show 0 * 96 + 1 * (j 0).val = (j 0).val; omega
  | ⟨1, _⟩ => show 0 * 96 + 1 * (j 1).val = (j 1).val; omega

/-- The whole result. -/
def result (A : Args) : Buf (Elt Ideal) ((c : Thread nD τ).loc main_v44) :=
  fun i => ((out A (i 0).val (i 1).val (i 2).val (i 3).val : ℝ) : EReal)

include L in
/-- What a point writes back is its image of the result. -/
theorem written (ho : Open A) (t : Fin cfg0.N) :
    (dats m 0 c).flushed 11 t = ((cfg0.win 11).blk t).view.read (Elt Ideal) (result (c := c) A) := by
  obtain ⟨e0, e1, e2, e3⟩ := index_out t
  have hN : cfg0.N = 16 := N_0
  have ht : t.val < 16 := hN ▸ t.isLt
  rw [flushed11, block0 L, block1 L, block2 L, block3 L, block4 L, block5 L, block6 L, block7 L, block8 L, block9, block10]
  funext j
  rw [View.read_apply]
  have hj : (j 0).val = 0 := Nat.lt_one_iff.mp (j 0).isLt
  have hi : (j : S1x64x48x48.Idx) = ix4 0 (j 1) (j 2) (j 3) := by
    funext a
    match a with
    | ⟨0, _⟩ => exact Fin.ext hj
    | ⟨1, _⟩ => rfl
    | ⟨2, _⟩ => rfl
    | ⟨3, _⟩ => rfl
  refine Eq.trans (b := ((out A t.val (j 1).val (j 2).val (j 3).val : ℝ) : EReal)) ?_ ?_
  · show out0_11 (u0 A t.val) (u1 A) (u2 A) (u3 A) (u4 A) (u5 A) (u6 A) (u7 A) (u8 A) u9 u10 (j : S1x64x48x48.Idx) = _
    rw [hi]
    exact KerOut.image ho ht (j 1) (j 2) (j 3)
  · show _ = ((out A (win0_11.index t 0 * 1 + 1 * (j 0).val) (win0_11.index t 1 * 64 + 1 * (j 1).val)
      (win0_11.index t 2 * 48 + 1 * (j 2).val) (win0_11.index t 3 * 48 + 1 * (j 3).val) : ℝ) : EReal)
    rw [e0, e1, e2, e3, hj]
    simp only [Nat.zero_mul, Nat.zero_add, Nat.mul_one, Nat.mul_zero, Nat.add_zero, Nat.one_mul]

/-- A point's block, by coordinates. -/
theorem mem_blk (t : Fin cfg0.N) (i : S16x64x48x48.Idx) : i ∈ ((cfg0.win 11).blk t).view.set ↔
    ∀ a : Fin 4, win0_11.index t a * win0_11.size a ≤ (i a : ℕ)
      ∧ (i a : ℕ) < win0_11.index t a * win0_11.size a + (win0_11.xblock (grid0.coords t)).size a := by
  show i ∈ ((View.whole main_v44).slice (win0_11.rect t)).set ↔ _
  rw [View.set_slice_whole, Rect.mem_set_unit]; exact Iff.rfl

/-- Every index is in some image. -/
theorem cover (i : S16x64x48x48.Idx) :
    ∃ t : Fin cfg0.N, (cfg0.win 11).flush t = true ∧ i ∈ ((cfg0.win 11).blk t).view.set := by
  have hN : cfg0.N = 16 := N_0
  have h0 : (i 0).val < 16 := (i 0).isLt
  have h1 : (i 1).val < 64 := (i 1).isLt
  have h2 : (i 2).val < 48 := (i 2).isLt
  have h3 : (i 3).val < 48 := (i 3).isLt
  refine ⟨⟨(i 0).val, hN ▸ h0⟩, flush0_11 _, ?_⟩
  obtain ⟨e0, e1, e2, e3⟩ := index_out ⟨(i 0).val, hN ▸ h0⟩
  rw [mem_blk]
  intro a
  match a with
  | ⟨0, _⟩ => show win0_11.index _ 0 * 1 ≤ (i 0).val ∧ (i 0).val < win0_11.index _ 0 * 1 + 1; rw [e0]; dsimp only; omega
  | ⟨1, _⟩ => show win0_11.index _ 1 * 64 ≤ (i 1).val ∧ (i 1).val < win0_11.index _ 1 * 64 + 64; rw [e1]; omega
  | ⟨2, _⟩ => show win0_11.index _ 2 * 48 ≤ (i 2).val ∧ (i 2).val < win0_11.index _ 2 * 48 + 48; rw [e2]; omega
  | ⟨3, _⟩ => show win0_11.index _ 3 * 48 ≤ (i 3).val ∧ (i 3).val < win0_11.index _ 3 * 48 + 48; rw [e3]; omega

include L in
/-- The array after the run. -/
theorem final (ho : Open A) : (dats m 0 c).arrAt 11 cfg0.N = result (c := c) A :=
  (dats m 0 c).arrAt_eq_of_cover 11 (result A) (fun t _ => written L ho t) cover

end Cert.KerArray
-- ==== Proof.Gathers.lean ====
module

public import Idealize.ShloMosaic.Lib.ValueIdx

@[expose] public section

open Idealize Idealize.ShloMosaic Idealize.ShloMosaic.ValueIdx

/-! The four gathers of the reference, read at one result index: taking along the last axis with one index for every
    leading position (ranks three and four), and taking rows of an axis by a plain list of indices. -/

namespace Cert.Gathers

variable {α : Type}

/-- Taking along the last axis of `[B, H, N]` with indices `[B, H, M, 1]`. -/
abbrev along3 (B H N M : Nat)
    (wf : GatherDims.WF ⟨3, ![B, H, N]⟩ ⟨4, ![B, H, M, 1]⟩ ⟨3, ![B, H, M]⟩ [] [2] [0, 1] [2] [0, 1] 3 ![1, 1, 1]) :
    GatherDims ⟨3, ![B, H, N]⟩ ⟨4, ![B, H, M, 1]⟩ ⟨3, ![B, H, M]⟩ where
  offsetDims := []
  collapsedSliceDims := [2]
  operandBatchingDims := [0, 1]
  startIndicesBatchingDims := [0, 1]
  startIndexMap := [2]
  indexVectorDim := 3
  sliceSizes := ![1, 1, 1]
  wf := wf

/-- The element read is the one at the clamped index in the same leading position. -/
theorem along3_apply {B H N M w : Nat} (hN : 0 < N)
    (wf : GatherDims.WF ⟨3, ![B, H, N]⟩ ⟨4, ![B, H, M, 1]⟩ ⟨3, ![B, H, M]⟩ [] [2] [0, 1] [2] [0, 1] 3 ![1, 1, 1])
    (x : (⟨3, ![B, H, N]⟩ : Shape).Idx → α) (idx : IVec ⟨4, ![B, H, M, 1]⟩ w) (b : Fin B) (h : Fin H) (j : Fin M) :
    Host.gather (along3 B H N M wf) x idx (ix3 b h j)
      = x (ix3 b h ⟨min (idx (ix4 b h j 0)).toInt.toNat (N - 1), by omega⟩) := by
  unfold Host.gather
  congr 1
  funext a
  refine Fin.ext ?_
  show (along3 B H N M wf).start _ idx a + (along3 B H N M wf).batchCoord _ a + (along3 B H N M wf).offCoord _ a = _
  match a with
  | ⟨0, _⟩ =>
    rw [GatherDims.start_batching _ _ _ _ (by simp), GatherDims.offCoord_eq_zero _ _ _
      (fun h => ((GatherDims.mem_sKept _ _).mp h).2 (by simp))]
    unfold GatherDims.batchCoord
    rw [dif_pos (by simp)]
    simp only [Nat.zero_add, Nat.add_zero]
    rfl
  | ⟨1, _⟩ =>
    rw [GatherDims.start_batching _ _ _ _ (by simp), GatherDims.offCoord_eq_zero _ _ _
      (fun h => ((GatherDims.mem_sKept _ _).mp h).2 (by simp))]
    unfold GatherDims.batchCoord
    rw [dif_pos (by simp)]
    simp only [Nat.zero_add, Nat.add_zero]
    rfl
  | ⟨2, _⟩ =>
    rw [GatherDims.batchCoord_eq_zero _ _ _ (fun h => by simp at h), GatherDims.offCoord_eq_zero _ _ _
      (fun h => ((GatherDims.mem_sKept _ _).mp h).1 (by simp))]
    unfold GatherDims.start
    rw [dif_pos (by simp)]
    simp only [Nat.add_zero]
    refine congrArg (fun i => min (idx i).toInt.toNat (N - 1)) ?_
    funext c
    match c with
    | ⟨0, _⟩ => rfl
    | ⟨1, _⟩ => rfl
    | ⟨2, _⟩ => rfl
    | ⟨3, _⟩ => rfl

/-- Taking along the last axis of `[B, C, H, N]` with indices `[B, C, H, M, 1]`. -/
abbrev along4 (B C H N M : Nat)
    (wf : GatherDims.WF ⟨4, ![B, C, H, N]⟩ ⟨5, ![B, C, H, M, 1]⟩ ⟨4, ![B, C, H, M]⟩ [] [3] [0, 1, 2] [3] [0, 1, 2] 4
      ![1, 1, 1, 1]) :
    GatherDims ⟨4, ![B, C, H, N]⟩ ⟨5, ![B, C, H, M, 1]⟩ ⟨4, ![B, C, H, M]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

/-- The element read is the one at the clamped index in the same leading position. -/
theorem along4_apply {B C H N M w : Nat} (hN : 0 < N)
    (wf : GatherDims.WF ⟨4, ![B, C, H, N]⟩ ⟨5, ![B, C, H, M, 1]⟩ ⟨4, ![B, C, H, M]⟩ [] [3] [0, 1, 2] [3] [0, 1, 2] 4
      ![1, 1, 1, 1])
    (x : (⟨4, ![B, C, H, N]⟩ : Shape).Idx → α) (idx : IVec ⟨5, ![B, C, H, M, 1]⟩ w)
    (b : Fin B) (c : Fin C) (h : Fin H) (j : Fin M) :
    Host.gather (along4 B C H N M wf) x idx (ix4 b c h j)
      = x (ix4 b c h ⟨min (idx (ix5 b c h j 0)).toInt.toNat (N - 1), by omega⟩) := by
  unfold Host.gather
  congr 1
  funext a
  refine Fin.ext ?_
  show (along4 B C H N M wf).start _ idx a + (along4 B C H N M wf).batchCoord _ a
    + (along4 B C H N M wf).offCoord _ a = _
  match a with
  | ⟨0, _⟩ =>
    rw [GatherDims.start_batching _ _ _ _ (by simp), GatherDims.offCoord_eq_zero _ _ _
      (fun h => ((GatherDims.mem_sKept _ _).mp h).2 (by simp))]
    unfold GatherDims.batchCoord
    rw [dif_pos (by simp)]
    simp only [Nat.zero_add, Nat.add_zero]
    rfl
  | ⟨1, _⟩ =>
    rw [GatherDims.start_batching _ _ _ _ (by simp), GatherDims.offCoord_eq_zero _ _ _
      (fun h => ((GatherDims.mem_sKept _ _).mp h).2 (by simp))]
    unfold GatherDims.batchCoord
    rw [dif_pos (by simp)]
    simp only [Nat.zero_add, Nat.add_zero]
    rfl
  | ⟨2, _⟩ =>
    rw [GatherDims.start_batching _ _ _ _ (by simp), GatherDims.offCoord_eq_zero _ _ _
      (fun h => ((GatherDims.mem_sKept _ _).mp h).2 (by simp))]
    unfold GatherDims.batchCoord
    rw [dif_pos (by simp)]
    simp only [Nat.zero_add, Nat.add_zero]
    rfl
  | ⟨3, _⟩ =>
    rw [GatherDims.batchCoord_eq_zero _ _ _ (fun h => by simp at h), GatherDims.offCoord_eq_zero _ _ _
      (fun h => ((GatherDims.mem_sKept _ _).mp h).1 (by simp))]
    unfold GatherDims.start
    rw [dif_pos (by simp)]
    simp only [Nat.add_zero]
    refine congrArg (fun i => min (idx i).toInt.toNat (N - 1)) ?_
    funext c
    match c with
    | ⟨0, _⟩ => rfl
    | ⟨1, _⟩ => rfl
    | ⟨2, _⟩ => rfl
    | ⟨3, _⟩ => rfl
    | ⟨4, _⟩ => rfl

/-- Taking rows `[B, 1, N, D]` on axis two by a list `[M, 1]`. -/
abbrev rows2 (B N D M : Nat)
    (wf : GatherDims.WF ⟨4, ![B, 1, N, D]⟩ ⟨2, ![M, 1]⟩ ⟨4, ![B, 1, M, D]⟩ [0, 1, 3] [2] [] [2] [] 1 ![B, 1, 1, D]) :
    GatherDims ⟨4, ![B, 1, N, D]⟩ ⟨2, ![M, 1]⟩ ⟨4, ![B, 1, M, D]⟩ where
  offsetDims := [0, 1, 3]
  collapsedSliceDims := [2]
  operandBatchingDims := []
  startIndicesBatchingDims := []
  startIndexMap := [2]
  indexVectorDim := 1
  sliceSizes := ![B, 1, 1, D]
  wf := wf

/-- The element read is the one of the row named by the clamped index. -/
theorem rows2_apply {B N D M w : Nat} (hN : 0 < N)
    (wf : GatherDims.WF ⟨4, ![B, 1, N, D]⟩ ⟨2, ![M, 1]⟩ ⟨4, ![B, 1, M, D]⟩ [0, 1, 3] [2] [] [2] [] 1 ![B, 1, 1, D])
    (x : (⟨4, ![B, 1, N, D]⟩ : Shape).Idx → α) (idx : IVec ⟨2, ![M, 1]⟩ w)
    (b : Fin B) (c : Fin 1) (m : Fin M) (q : Fin D) :
    Host.gather (rows2 B N D M wf) x idx (ix4 b c m q)
      = x (ix4 b c ⟨min (idx (ix2 m 0)).toInt.toNat (N - 1), by omega⟩ q) := by
  unfold Host.gather
  congr 1
  funext a
  refine Fin.ext ?_
  show (rows2 B N D M wf).start _ idx a + (rows2 B N D M wf).batchCoord _ a + (rows2 B N D M wf).offCoord _ a = _
  rw [GatherDims.batchCoord_eq_zero _ _ _ (fun h => by simp at h)]
  match a with
  | ⟨0, _⟩ =>
    unfold GatherDims.start GatherDims.offCoord
    rw [dif_neg (by simp), dif_pos (by rw [GatherDims.mem_sKept]; simp)]
    simp only [Nat.zero_add]
    rfl
  | ⟨1, _⟩ =>
    unfold GatherDims.start GatherDims.offCoord
    rw [dif_neg (by simp), dif_pos (by rw [GatherDims.mem_sKept]; simp)]
    simp only [Nat.zero_add]
    rfl
  | ⟨2, _⟩ =>
    rw [GatherDims.offCoord_eq_zero _ _ _ (fun h => ((GatherDims.mem_sKept _ _).mp h).1 (by simp))]
    unfold GatherDims.start
    rw [dif_pos (by simp)]
    simp only [Nat.add_zero]
    refine congrArg (fun i => min (idx i).toInt.toNat (N - 1)) ?_
    funext c
    match c with
    | ⟨0, _⟩ => rfl
    | ⟨1, _⟩ => rfl
  | ⟨3, _⟩ =>
    unfold GatherDims.start GatherDims.offCoord
    rw [dif_neg (by simp), dif_pos (by rw [GatherDims.mem_sKept]; simp)]
    simp only [Nat.zero_add]
    rfl

/-- Taking columns of `[B, 1, H, N]` on axis three by a list `[M, 1]`. -/
abbrev cols3 (B H N M : Nat)
    (wf : GatherDims.WF ⟨4, ![B, 1, H, N]⟩ ⟨2, ![M, 1]⟩ ⟨4, ![B, 1, H, M]⟩ [0, 1, 2] [3] [] [3] [] 1 ![B, 1, H, 1]) :
    GatherDims ⟨4, ![B, 1, H, N]⟩ ⟨2, ![M, 1]⟩ ⟨4, ![B, 1, H, M]⟩ where
  offsetDims := [0, 1, 2]
  collapsedSliceDims := [3]
  operandBatchingDims := []
  startIndicesBatchingDims := []
  startIndexMap := [3]
  indexVectorDim := 1
  sliceSizes := ![B, 1, H, 1]
  wf := wf

/-- The element read is the one of the column named by the clamped index. -/
theorem cols3_apply {B H N M w : Nat} (hN : 0 < N)
    (wf : GatherDims.WF ⟨4, ![B, 1, H, N]⟩ ⟨2, ![M, 1]⟩ ⟨4, ![B, 1, H, M]⟩ [0, 1, 2] [3] [] [3] [] 1 ![B, 1, H, 1])
    (x : (⟨4, ![B, 1, H, N]⟩ : Shape).Idx → α) (idx : IVec ⟨2, ![M, 1]⟩ w)
    (b : Fin B) (c : Fin 1) (h : Fin H) (m : Fin M) :
    Host.gather (cols3 B H N M wf) x idx (ix4 b c h m)
      = x (ix4 b c h ⟨min (idx (ix2 m 0)).toInt.toNat (N - 1), by omega⟩) := by
  unfold Host.gather
  congr 1
  funext a
  refine Fin.ext ?_
  show (cols3 B H N M wf).start _ idx a + (cols3 B H N M wf).batchCoord _ a + (cols3 B H N M wf).offCoord _ a = _
  rw [GatherDims.batchCoord_eq_zero _ _ _ (fun h => by simp at h)]
  match a with
  | ⟨0, _⟩ =>
    unfold GatherDims.start GatherDims.offCoord
    rw [dif_neg (by simp), dif_pos (by rw [GatherDims.mem_sKept]; simp)]
    simp only [Nat.zero_add]
    rfl
  | ⟨1, _⟩ =>
    unfold GatherDims.start GatherDims.offCoord
    rw [dif_neg (by simp), dif_pos (by rw [GatherDims.mem_sKept]; simp)]
    simp only [Nat.zero_add]
    rfl
  | ⟨2, _⟩ =>
    unfold GatherDims.start GatherDims.offCoord
    rw [dif_neg (by simp), dif_pos (by rw [GatherDims.mem_sKept]; simp)]
    simp only [Nat.zero_add]
    rfl
  | ⟨3, _⟩ =>
    rw [GatherDims.offCoord_eq_zero _ _ _ (fun h => ((GatherDims.mem_sKept _ _).mp h).1 (by simp))]
    unfold GatherDims.start
    rw [dif_pos (by simp)]
    simp only [Nat.add_zero]
    refine congrArg (fun i => min (idx i).toInt.toNat (N - 1)) ?_
    funext c
    match c with
    | ⟨0, _⟩ => rfl
    | ⟨1, _⟩ => rfl

end Cert.Gathers
-- ==== Proof.Folds.lean ====
module

public import Idealize.ShloMosaic.Lib.ValueIdx
public import Idealize.ShloMosaic.Lib.ValueIdxRank6
public import Idealize.ShloMosaic.Lib.IndicatorCount
public import Idealize.ShloMosaic.Lib.Pointwise.Reduce
public import Mathlib.Algebra.BigOperators.Fin
public import Mathlib.Algebra.BigOperators.Intervals

@[expose] public section

open Idealize Idealize.ShloMosaic.ValueIdx
open Idealize.ShloMosaic hiding ix3 ix4 ix6

/-! Running sums, counts and the two-axis block sum of the reference, read at one result index. -/

namespace Cert.Folds

/-- Adding the terms of a list to a start value, one after the other. -/
theorem foldl_add_eq {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A host window sum starting from zero is the sum over the positions of the window. -/
theorem windowSum_eq {s t u : Shape} (window strides lo hi : Fin s.rank → Nat) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j
      = ∑ q : (⟨s.rank, window⟩ : Shape).Idx,
          (if hin : ∀ a, lo a ≤ (j (a.cast h.1.symm)).val * strides a + (q a).val
              ∧ (j (a.cast h.1.symm)).val * strides a + (q a).val - lo a < s.size a
            then x (fun a => ⟨(j (a.cast h.1.symm)).val * strides a + (q a).val - lo a, (hin a).2⟩) else 0) := by
  unfold Host.reduceWindow
  simp only [h0]
  rw [foldl_add_eq (fun n => (if hin : ∀ a, lo a ≤ (j (a.cast h.1.symm)).val * strides a
      + ((⟨s.rank, window⟩ : Shape).rowMajor.symm n a).val
      ∧ (j (a.cast h.1.symm)).val * strides a + ((⟨s.rank, window⟩ : Shape).rowMajor.symm n a).val - lo a < s.size a
      then x (fun a => ⟨(j (a.cast h.1.symm)).val * strides a
        + ((⟨s.rank, window⟩ : Shape).rowMajor.symm n a).val - lo a, (hin a).2⟩) else 0)), zero_add,
    ← Fin.sum_univ_def]
  exact Equiv.sum_comp (⟨s.rank, window⟩ : Shape).rowMajor.symm (fun q => (if hin : ∀ a, lo a ≤ (j (a.cast h.1.symm)).val * strides a + (q a).val
              ∧ (j (a.cast h.1.symm)).val * strides a + (q a).val - lo a < s.size a
            then x (fun a => ⟨(j (a.cast h.1.symm)).val * strides a + (q a).val - lo a, (hin a).2⟩) else 0))

/-- The indices of `[1, 1, n]` are the positions on its last axis. -/
def lastEquiv (n : Nat) : Fin n ≃ (⟨3, ![1, 1, n]⟩ : Shape).Idx where
  toFun k := ix3 0 0 k
  invFun q := q 2
  left_inv _ := rfl
  right_inv q := by
    funext a
    match a with
    | ⟨0, _⟩ => exact Subsingleton.elim (α := Fin 1) _ _
    | ⟨1, _⟩ => exact Subsingleton.elim (α := Fin 1) _ _
    | ⟨2, _⟩ => rfl

/-- The indices of `[1, n, 1]` are the positions on its middle axis. -/
def midEquiv (n : Nat) : Fin n ≃ (⟨3, ![1, n, 1]⟩ : Shape).Idx where
  toFun k := ix3 0 k 0
  invFun q := q 1
  left_inv _ := rfl
  right_inv q := by
    funext a
    match a with
    | ⟨0, _⟩ => exact Subsingleton.elim (α := Fin 1) _ _
    | ⟨1, _⟩ => rfl
    | ⟨2, _⟩ => exact Subsingleton.elim (α := Fin 1) _ _

/-- Of the shifted positions the ones not before the start contribute: a prefix sum. -/
theorem sum_shift (f : ℕ → EReal) (w : ℕ) (hw : w < 96) :
    ∑ k : Fin 96, (if 95 ≤ w + k.val then f (w + k.val - 95) else 0) = ∑ k ∈ Finset.range (w + 1), f k := by
  rw [Finset.sum_range (n := 96) (fun k => if 95 ≤ w + k then f (w + k - 95) else 0) |>.symm]
  have e : (96 : ℕ) = (95 - w) + (w + 1) := by omega
  rw [e, Finset.sum_range_add]
  rw [Finset.sum_eq_zero (fun k hk => by rw [Finset.mem_range] at hk; rw [if_neg (by omega)]), zero_add]
  refine Finset.sum_congr rfl fun k hk => ?_
  rw [if_pos (by omega)]
  congr 1; omega

/-- The running sum along the last axis. -/
theorem cumsum_last {B H : Nat} {u : Shape} (x : (⟨3, ![B, H, 96]⟩ : Shape).Idx → EReal) (init : u.Idx → EReal)
    (h : (⟨3, ![B, H, 96]⟩ : Shape).ReduceWindows ![1, 1, 96] ![1, 1, 1] ![0, 0, 95] ![0, 0, 0] ⟨3, ![B, H, 96]⟩)
    (hu : 0 < u.numel) (h0 : init (Shape.Idx.first hu) = 0) (b : Fin B) (r : Fin H) (w : Fin 96) (f : ℕ → EReal)
    (hf : ∀ k : Fin 96, x (ix3 b r k) = f k.val) :
    Host.reduceWindow (· + ·) ![1, 1, 96] ![1, 1, 1] ![0, 0, 95] ![0, 0, 0] x init h hu (ix3 b r w)
      = ∑ k ∈ Finset.range (w.val + 1), f k := by
  rw [windowSum_eq _ _ _ _ _ _ _ _ h0, ← sum_shift f w.val w.isLt]
  refine (Equiv.sum_comp (lastEquiv 96) _).symm.trans (Finset.sum_congr rfl fun k _ => ?_)
  by_cases hk : 95 ≤ w.val + k.val
  · have hin : ∀ a : Fin 3, (![0, 0, 95] : Fin 3 → ℕ) a ≤ ((ix3 b r w : (⟨3, ![B, H, 96]⟩ : Shape).Idx) a).val
          * (![1, 1, 1] : Fin 3 → ℕ) a + (lastEquiv 96 k a).val
        ∧ ((ix3 b r w : (⟨3, ![B, H, 96]⟩ : Shape).Idx) a).val * (![1, 1, 1] : Fin 3 → ℕ) a
          + (lastEquiv 96 k a).val - (![0, 0, 95] : Fin 3 → ℕ) a < (![B, H, 96] : Fin 3 → ℕ) a := by
      intro a
      match a with
      | ⟨0, _⟩ => exact ⟨Nat.zero_le _, by show b.val * 1 + 0 - 0 < B; have := b.isLt; omega⟩
      | ⟨1, _⟩ => exact ⟨Nat.zero_le _, by show r.val * 1 + 0 - 0 < H; have := r.isLt; omega⟩
      | ⟨2, _⟩ => exact ⟨by show 95 ≤ w.val * 1 + k.val; omega, by show w.val * 1 + k.val - 95 < 96; omega⟩
    rw [if_pos hk]
    refine (dif_pos hin).trans ?_
    have e := hf ⟨w.val + k.val - 95, by omega⟩
    rw [← e]
    congr 1
    funext a
    refine Fin.ext ?_
    match a with
    | ⟨0, _⟩ => show b.val * 1 + 0 - 0 = b.val; omega
    | ⟨1, _⟩ => show r.val * 1 + 0 - 0 = r.val; omega
    | ⟨2, _⟩ => show w.val * 1 + k.val - 95 = w.val + k.val - 95; omega
  · rw [if_neg hk]
    refine dif_neg fun hin => hk ?_
    have := (hin 2).1
    have e : 95 ≤ w.val * 1 + k.val := this
    omega

/-- The running sum along the middle axis. -/
theorem cumsum_mid {B M : Nat} {u : Shape} (x : (⟨3, ![B, 96, M]⟩ : Shape).Idx → EReal) (init : u.Idx → EReal)
    (h : (⟨3, ![B, 96, M]⟩ : Shape).ReduceWindows ![1, 96, 1] ![1, 1, 1] ![0, 95, 0] ![0, 0, 0] ⟨3, ![B, 96, M]⟩)
    (hu : 0 < u.numel) (h0 : init (Shape.Idx.first hu) = 0) (b : Fin B) (w : Fin 96) (r : Fin M) (f : ℕ → EReal)
    (hf : ∀ k : Fin 96, x (ix3 b k r) = f k.val) :
    Host.reduceWindow (· + ·) ![1, 96, 1] ![1, 1, 1] ![0, 95, 0] ![0, 0, 0] x init h hu (ix3 b w r)
      = ∑ k ∈ Finset.range (w.val + 1), f k := by
  rw [windowSum_eq _ _ _ _ _ _ _ _ h0, ← sum_shift f w.val w.isLt]
  refine (Equiv.sum_comp (midEquiv 96) _).symm.trans (Finset.sum_congr rfl fun k _ => ?_)
  by_cases hk : 95 ≤ w.val + k.val
  · have hin : ∀ a : Fin 3, (![0, 95, 0] : Fin 3 → ℕ) a ≤ ((ix3 b w r : (⟨3, ![B, 96, M]⟩ : Shape).Idx) a).val
          * (![1, 1, 1] : Fin 3 → ℕ) a + (midEquiv 96 k a).val
        ∧ ((ix3 b w r : (⟨3, ![B, 96, M]⟩ : Shape).Idx) a).val * (![1, 1, 1] : Fin 3 → ℕ) a
          + (midEquiv 96 k a).val - (![0, 95, 0] : Fin 3 → ℕ) a < (![B, 96, M] : Fin 3 → ℕ) a := by
      intro a
      match a with
      | ⟨0, _⟩ => exact ⟨Nat.zero_le _, by show b.val * 1 + 0 - 0 < B; have := b.isLt; omega⟩
      | ⟨1, _⟩ => exact ⟨by show 95 ≤ w.val * 1 + k.val; omega, by show w.val * 1 + k.val - 95 < 96; omega⟩
      | ⟨2, _⟩ => exact ⟨Nat.zero_le _, by show r.val * 1 + 0 - 0 < M; have := r.isLt; omega⟩
    rw [if_pos hk]
    refine (dif_pos hin).trans ?_
    have e := hf ⟨w.val + k.val - 95, by omega⟩
    rw [← e]
    congr 1
    funext a
    refine Fin.ext ?_
    match a with
    | ⟨0, _⟩ => show b.val * 1 + 0 - 0 = b.val; omega
    | ⟨1, _⟩ => show w.val * 1 + k.val - 95 = w.val + k.val - 95; omega
    | ⟨2, _⟩ => show r.val * 1 + 0 - 0 = r.val; omega
  · rw [if_neg hk]
    refine dif_neg fun hin => hk ?_
    have := (hin 1).1
    have e : 95 ≤ w.val * 1 + k.val := this
    omega

/-- The block sum over axes three and five of `[B, C, P, K, Q, L]`. -/
theorem sum_blocks {B C P K Q L : Nat} (x : (⟨6, ![B, C, P, K, Q, L]⟩ : Shape).Idx → EReal) (init : EReal)
    (h : (⟨6, ![B, C, P, K, Q, L]⟩ : Shape).ReducesTo [3, 5] ⟨4, ![B, C, P, Q]⟩)
    (b : Fin B) (c : Fin C) (p : Fin P) (q : Fin Q) :
    Ideal.hostReduceAdd h x init (ix4 b c p q) = init + ∑ k : Fin K, ∑ l : Fin L, x (ix6 b c p k q l) := by
  unfold Ideal.hostReduceAdd
  congr 1
  rw [Finset.sum_filter_eq_sum_of_fiber (fun i => h.drop i = ix4 b c p q)
    (fun kl : Fin K × Fin L => (ix6 b c p kl.1 q kl.2 : (⟨6, ![B, C, P, K, Q, L]⟩ : Shape).Idx))
    (fun a a' e => Prod.ext (congrFun e 3) (congrFun e 5)) ?_ x, Fintype.sum_prod_type]
  intro i
  constructor
  · intro e
    refine ⟨(i 3, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨kl, rfl⟩
    funext a; apply Fin.ext
    match a with
    | ⟨0, _⟩ => rfl
    | ⟨1, _⟩ => rfl
    | ⟨2, _⟩ => rfl
    | ⟨3, _⟩ => rfl

/-- The number of places of axis two at which a bit is set, as a word. -/
theorem count_mid {B H N M : Nat} {u : Shape} (x : IVec ⟨4, ![B, H, N, M]⟩ 32) (init : IVec u 32)
    (h : (⟨4, ![B, H, N, M]⟩ : Shape).ReducesTo [2] ⟨3, ![B, H, M]⟩) (hu : 0 < u.numel)
    (h0 : init (Shape.Idx.first hu) = 0#32) (b : Fin B) (r : Fin H) (j : Fin M) (p : Fin N → BitVec 1)
    (hp : ∀ k, x (ix4 b r k j) = (p k).setWidth 32) :
    Host.reduce IntOp.addi x init h hu (ix3 b r j)
      = BitVec.ofNat 32 (Finset.univ.filter fun k => p k = 1#1).card := by
  rw [Host.reduce_eq_fold, Shape.ReducesTo.fold_fiber_r4_a2, h0, ← IndicatorCount.fold_addi_setWidth_eq_card]
  refine Finset.fold_congr fun k _ => ?_
  exact hp k

end Cert.Folds
-- ==== Proof.RefFront.lean ====
module

public import proofs.«01_k».proof.Proof.Gen.ReferenceIdeal.Read
public import proofs.«01_k».proof.Proof.Lift
public import proofs.«01_k».proof.Proof.Words
public import proofs.«01_k».proof.Proof.Gathers
public import proofs.«01_k».proof.Proof.Folds
public import Idealize.ShloMosaic.Lib.IdealHost

@[expose] public section

open Idealize Idealize.ShloMosaic.ValueIdx
open Idealize.ShloMosaic hiding ix0 ix1 ix2 ix3 ix4 ix5 ix6 eq_ix2 eq_ix3 eq_ix4

/-! The reference up to its saliency map, stage by stage: every stage's array holds the real numbers of the model. -/

noncomputable section

namespace Cert.RefFront

open Cert.ReferenceIdeal Cert.ReferenceIdeal.Gen Cert.ReferenceIdeal.Read Cert.Model Cert.Words

variable (A : Args)

/-- The scale of the first normalisation. -/
theorem r5 (i : S192.Idx) :
    val_main_v5 (F := Ideal) A.a2 A.a5 i = ((scale A.g1 A.v1 (i 0).val : ℝ) : EReal) := by
  simp only [val_main_v5_apply, val_main_v4_apply, val_main_v3_apply, val_main_v2_apply, val_main_cst_apply, w_e5,
    Ideal.addf_def, Ideal.hostDivf_def, Ideal.hostUnary_sqrt_def]
  exact scale_real A.g1 A.v1 A.v1_nonneg (i 0).val

/-- The features. -/
theorem r15 (i : S16x192x96x96.Idx) :
    val_main_v15 (F := Ideal) A.a0 A.a1 A.a2 A.a3 A.a4 A.a5 i
      = ((y A (i 0).val (i 1).val (i 2).val (i 3).val : ℝ) : EReal) := by
  simp only [val_main_v15_apply, val_main_call0_v4_apply, val_main_call0_v3_apply, val_main_cst_1_apply,
    val_main_call0_v2_apply, val_main_call0_v1_apply, val_main_call0_v0_apply, val_main_cst_0_apply,
    val_main_v14_apply, val_main_v13_apply, val_main_v12_apply, val_main_v11_apply, val_main_v10_apply,
    val_main_v9_apply, val_main_v8_apply, val_main_v7_apply, val_main_v6_apply, val_main_v1_apply, val_main_v0_apply,
    r5, w_zero, w_six, Ideal.addf_def, Ideal.subf_def, Ideal.mulf_def, Ideal.maximumf_def, Ideal.minimumf_def]
  rw [sum_coe (n := 32) (fun k => A.a1 (lidx_main_v0 (idx_main_v1 i) k) * A.a0 (ridx_main_v0 (idx_main_v1 i) k))
    (fun k => A.w1 (i 1).val k * A.x (i 0).val k (i 2).val (i 3).val)
    (fun k => (EReal.coe_mul _ _).symm)]
  show min _ (max _ ((_ - ((A.m1 (i 1).val : ℝ) : EReal)) * _ + ((A.b1 (i 1).val : ℝ) : EReal))) = _
  rw [← EReal.coe_sub, ← EReal.coe_mul, ← EReal.coe_add, clip_real]
  rfl

/-- The features, cut into blocks. -/
theorem r16 (b : Fin 16) (c : Fin 192) (p : Fin 6) (k : Fin 16) (q : Fin 6) (l : Fin 16) :
    val_main_v16 (F := Ideal) A.a0 A.a1 A.a2 A.a3 A.a4 A.a5 (ix6 b c p k q l)
      = ((y A b.val c.val (16 * p.val + k.val) (16 * q.val + l.val) : ℝ) : EReal) := by
  unfold val_main_v16
  rw [shapeCast_apply _ shapeCasts_S16x192x96x96_S16x192x6x16x6x16 (ix6 b c p k q l)
    (ix4 b c (⟨16 * p.val + k.val, by omega⟩ : Fin 96) (⟨16 * q.val + l.val, by omega⟩ : Fin 96))
    (by
      rw [Shape.rowMajor_val_four, Shape.rowMajor_val_six]
      show ((b.val * 192 + c.val) * 96 + (16 * p.val + k.val)) * 96 + (16 * q.val + l.val)
        = ((((b.val * 192 + c.val) * 6 + p.val) * 16 + k.val) * 6 + q.val) * 16 + l.val
      omega), r15]

/-- The mean of a block. -/
theorem r19 (i : S16x192x6x6.Idx) :
    val_main_v19 (F := Ideal) A.a0 A.a1 A.a2 A.a3 A.a4 A.a5 i
      = ((pool A (i 0).val (i 1).val (i 2).val (i 3).val : ℝ) : EReal) := by
  obtain ⟨b, c, p, q, rfl⟩ : ∃ (b : Fin 16) (c : Fin 192) (p q : Fin 6), i = ix4 b c p q := ⟨_, _, _, _, eq_ix4 i⟩
  simp only [val_main_v19_apply, val_main_v18_apply, val_main_cst_3_apply, w_256, Ideal.hostDivf_def]
  unfold val_main_v17
  rw [hostReduceAdd_apply, Cert.Folds.sum_blocks, val_main_cst_2_apply, w_zero]
  rw [sum_coe (n := 16) _ (fun k => ∑ l ∈ Finset.range 16, y A b.val c.val (16 * p.val + k) (16 * q.val + l))
    (fun k => sum_coe (n := 16) _ (fun l => y A b.val c.val (16 * p.val + k.val) (16 * q.val + l))
      (fun l => r16 A b c p k q l)), ← EReal.coe_add, div_real _ (by norm_num), zero_add]
  rfl

/-- The gate. -/
theorem r30 (i : S16x1x6x6.Idx) :
    val_main_v30 (F := Ideal) A.a0 A.a1 A.a2 A.a3 A.a4 A.a5 A.a6 A.a7 i
      = ((gate A (i 0).val (i 2).val (i 3).val : ℝ) : EReal) := by
  simp only [val_main_v30_apply, val_main_v29_apply, val_main_cst_5_apply, val_main_v28_apply, val_main_v27_apply,
    val_main_cst_4_apply, val_main_v26_apply, val_main_v25_apply, val_main_v24_apply, val_main_v23_apply,
    val_main_v22_apply, val_main_v21_apply, val_main_v20_apply, r19, w_one, Ideal.hostDivf_def, Ideal.addf_def,
    Ideal.hostUnary_exp_def, Ideal.hostNegf_def, Ideal.negf_def]
  rw [sum_coe (n := 192) (fun k => A.a6 (lidx_main_v20 (idx_main_v21 i) k)
    * ((pool A (i 0).val k.val (i 2).val (i 3).val : ℝ) : EReal)) (fun c => A.sew c * pool A (i 0).val c (i 2).val (i 3).val) (fun k => (EReal.coe_mul _ _).symm)]
  show Ideal.div _ (_ + Ideal.exp (-(_ + ((A.seb : ℝ) : EReal)))) = _
  rw [← EReal.coe_add, ← EReal.coe_neg, Ideal.exp_coe, ← EReal.coe_add, div_real _ (by positivity), one_div]
  rfl

/-- The row numbers of the small map. -/
theorem r36 (i : S96.Idx) : val_main_v36 (F := Ideal) i = BitVec.ofNat 32 (i0 (i 0).val) := by
  have h : (i 0).val < 96 := (i 0).isLt
  simp only [val_main_v36_apply, val_main_call1_v4_apply, val_main_call1_v3_apply, val_main_c_7_apply,
    val_main_call1_v2_apply, val_main_call1_v1_apply, val_main_call1_v0_apply, val_main_c_apply, val_main_v35_apply,
    val_main_v34_apply, val_main_v33_apply, val_main_v32_apply, val_main_cst_6_apply, w_rate, Ideal.mulf_def,
    Ideal.hostUnary_floor_def]
  have e : val_main_v31 (F := Ideal) i = (((i 0).val : ℝ) : EReal) := by
    show (((BitVec.ofNat 32 (i 0).val).toInt : ℝ) : EReal) = _
    rw [toInt_word _ (by omega)]
  rw [e, ← EReal.coe_mul, Ideal.liftRound_coe, floor_rate _ h]
  have e2 : ((((((i 0).val / 19 : ℕ) : ℤ)) : ℝ) : EReal) = ((((i 0).val / 19 : ℕ) : ℝ) : EReal) := by rw [Int.cast_natCast]
  show IntOp.minsi _ (IntOp.maxsi _ (Ideal.fptosi 32 _)) = _
  rw [e2, fptosi_nat _ (by omega)]
  exact clip4_word ⟨(i 0).val, h⟩

/-- The column numbers of the small map. -/
theorem r44 (i : S96.Idx) : val_main_v44 (F := Ideal) i = BitVec.ofNat 32 (i0 (i 0).val) := r36 i

theorem i0_lt (h : ℕ) : i0 h < 2 ^ 31 := by have := i0_le h; omega

/-- The row fractions. -/
theorem r38 (i : S96.Idx) : val_main_v38 (F := Ideal) i = ((fr (i 0).val : ℝ) : EReal) := by
  have h : (i 0).val < 96 := (i 0).isLt
  simp only [val_main_v38_apply, val_main_v37_apply, r36, val_main_v33_apply, val_main_v32_apply,
    val_main_cst_6_apply, w_rate, Ideal.mulf_def, Ideal.subf_def]
  have e : val_main_v31 (F := Ideal) i = (((i 0).val : ℝ) : EReal) := by
    show (((BitVec.ofNat 32 (i 0).val).toInt : ℝ) : EReal) = _
    rw [toInt_word _ (by omega)]
  show _ - (((BitVec.ofNat 32 (i0 (i 0).val)).toInt : ℝ) : EReal) = _
  rw [e, toInt_word _ (i0_lt _), ← EReal.coe_mul, ← EReal.coe_sub]
  rfl

/-- The column fractions. -/
theorem r46 (i : S96.Idx) : val_main_v46 (F := Ideal) i = ((fr (i 0).val : ℝ) : EReal) := r38 i

/-- The rows of the gate at the lower neighbours. -/
theorem r53 (b : Fin 16) (h : Fin 96) (q : Fin 6) :
    val_main_v53 (F := Ideal) A.a0 A.a1 A.a2 A.a3 A.a4 A.a5 A.a6 A.a7 (ix4 b 0 h q)
      = ((gate A b.val (i0 h.val) q.val : ℝ) : EReal) := by
  unfold val_main_v53
  refine (Cert.Gathers.rows2_apply (B := 16) (N := 6) (D := 6) (M := 96) (by norm_num)
    gather_S16x1x6x6_S96x1_S16x1x96x6_013_2_n_n_2_1_16116.wf _ _ b 0 h q).trans ?_
  rw [r30]
  simp only [val_main_v52_apply, val_main_v51_apply, val_main_v50_apply, val_main_v49_apply, val_main_c_12_apply,
    val_main_v48_apply, val_main_v47_apply, val_main_c_11_apply, r36]
  have e := take6_word ⟨i0 h.val, by have := i0_le h.val; omega⟩
  exact congrArg (fun n : ℕ => ((gate A b.val n q.val : ℝ) : EReal)) e

/-- The rows of the gate at the upper neighbours. -/
theorem r68 (b : Fin 16) (h : Fin 96) (q : Fin 6) :
    val_main_v68 (F := Ideal) A.a0 A.a1 A.a2 A.a3 A.a4 A.a5 A.a6 A.a7 (ix4 b 0 h q)
      = ((gate A b.val (i0 h.val + 1) q.val : ℝ) : EReal) := by
  unfold val_main_v68
  refine (Cert.Gathers.rows2_apply (B := 16) (N := 6) (D := 6) (M := 96) (by norm_num)
    gather_S16x1x6x6_S96x1_S16x1x96x6_013_2_n_n_2_1_16116.wf _ _ b 0 h q).trans ?_
  rw [r30]
  simp only [val_main_v67_apply, val_main_v66_apply, val_main_v65_apply, val_main_v64_apply, val_main_c_16_apply,
    val_main_v63_apply, val_main_v62_apply, val_main_c_15_apply, val_main_v61_apply, val_main_v60_apply,
    val_main_c_14_apply, r36, IntOp.addi, succ_word]
  have e := take6_word ⟨i0 h.val + 1, by have := i0_le h.val; omega⟩
  exact congrArg (fun n : ℕ => ((gate A b.val n q.val : ℝ) : EReal)) e

/-- The gate with its rows blown up. -/
theorem r73 (i : S16x1x96x6.Idx) :
    val_main_v73 (F := Ideal) A.a0 A.a1 A.a2 A.a3 A.a4 A.a5 A.a6 A.a7 i
      = ((rows A (i 0).val (i 2).val (i 3).val : ℝ) : EReal) := by
  obtain ⟨b, c, h, q, rfl⟩ : ∃ (b : Fin 16) (c : Fin 1) (h : Fin 96) (q : Fin 6), i = ix4 b c h q :=
    ⟨_, _, _, _, eq_ix4 i⟩
  obtain rfl : c = 0 := Subsingleton.elim _ _
  simp only [val_main_v73_apply, val_main_v72_apply, val_main_v71_apply, val_main_v70_apply, val_main_v69_apply,
    val_main_v59_apply, val_main_v58_apply, val_main_v57_apply, val_main_v56_apply, val_main_v55_apply,
    val_main_v54_apply, val_main_cst_13_apply, r53, r68, r38, w_one, Ideal.addf_def, Ideal.mulf_def, Ideal.subf_def,
    ← EReal.coe_add, ← EReal.coe_sub, ← EReal.coe_mul]
  rfl

/-- Its columns at the lower neighbours. -/
theorem r80 (b : Fin 16) (h : Fin 96) (w : Fin 96) :
    val_main_v80 (F := Ideal) A.a0 A.a1 A.a2 A.a3 A.a4 A.a5 A.a6 A.a7 (ix4 b 0 h w)
      = ((rows A b.val h.val (i0 w.val) : ℝ) : EReal) := by
  unfold val_main_v80
  refine (Cert.Gathers.cols3_apply (B := 16) (H := 96) (N := 6) (M := 96) (by norm_num)
    gather_S16x1x96x6_S96x1_S16x1x96x96_012_3_n_n_3_1_161961.wf _ _ b 0 h w).trans ?_
  rw [r73]
  simp only [val_main_v79_apply, val_main_v78_apply, val_main_v77_apply, val_main_v76_apply, val_main_c_18_apply,
    val_main_v75_apply, val_main_v74_apply, val_main_c_17_apply, r44]
  have e := take6_word ⟨i0 w.val, by have := i0_le w.val; omega⟩
  exact congrArg (fun n : ℕ => ((rows A b.val h.val n : ℝ) : EReal)) e

/-- Its columns at the upper neighbours. -/
theorem r94 (b : Fin 16) (h : Fin 96) (w : Fin 96) :
    val_main_v94 (F := Ideal) A.a0 A.a1 A.a2 A.a3 A.a4 A.a5 A.a6 A.a7 (ix4 b 0 h w)
      = ((rows A b.val h.val (i0 w.val + 1) : ℝ) : EReal) := by
  unfold val_main_v94
  refine (Cert.Gathers.cols3_apply (B := 16) (H := 96) (N := 6) (M := 96) (by norm_num)
    gather_S16x1x96x6_S96x1_S16x1x96x96_012_3_n_n_3_1_161961.wf _ _ b 0 h w).trans ?_
  rw [r73]
  simp only [val_main_v93_apply, val_main_v92_apply, val_main_v91_apply, val_main_v90_apply, val_main_c_22_apply,
    val_main_v89_apply, val_main_v88_apply, val_main_c_21_apply, val_main_v87_apply, val_main_v86_apply,
    val_main_c_20_apply, r44, IntOp.addi, succ_word]
  have e := take6_word ⟨i0 w.val + 1, by have := i0_le w.val; omega⟩
  exact congrArg (fun n : ℕ => ((rows A b.val h.val n : ℝ) : EReal)) e

/-- The saliency map, with its channel axis. -/
theorem r98 (i : S16x1x96x96.Idx) :
    val_main_v98 (F := Ideal) A.a0 A.a1 A.a2 A.a3 A.a4 A.a5 A.a6 A.a7 i
      = ((se A (i 0).val (i 2).val (i 3).val : ℝ) : EReal) := by
  obtain ⟨b, c, h, q, rfl⟩ : ∃ (b : Fin 16) (c : Fin 1) (h : Fin 96) (q : Fin 96), i = ix4 b c h q :=
    ⟨_, _, _, _, eq_ix4 i⟩
  obtain rfl : c = 0 := Subsingleton.elim _ _
  simp only [val_main_v98_apply, val_main_v97_apply, val_main_v96_apply, val_main_v95_apply, val_main_v85_apply,
    val_main_v84_apply, val_main_v83_apply, val_main_v82_apply, val_main_v81_apply, val_main_cst_19_apply,
    r80, r94, r46, w_one, Ideal.addf_def, Ideal.mulf_def, Ideal.subf_def,
    ← EReal.coe_add, ← EReal.coe_sub, ← EReal.coe_mul]
  rfl

/-- The saliency map. -/
theorem r101 (i : S16x96x96.Idx) :
    val_main_v101 (F := Ideal) A.a0 A.a1 A.a2 A.a3 A.a4 A.a5 A.a6 A.a7 i
      = ((se A (i 0).val (i 1).val (i 2).val : ℝ) : EReal) := by
  have h0 : (i 0).val < 16 := (i 0).isLt
  have h1 : (i 1).val < 96 := (i 1).isLt
  have h2 : (i 2).val < 96 := (i 2).isLt
  rw [val_main_v101_apply, r98]
  have e0 : (((i 0).val * 96 + (i 1).val) * 96 + (i 2).val) / 9216 = (i 0).val := by omega
  have e1 : (((i 0).val * 96 + (i 1).val) * 96 + (i 2).val) / 96 % 96 = (i 1).val := by omega
  have e2 : (((i 0).val * 96 + (i 1).val) * 96 + (i 2).val) % 96 = (i 2).val := by omega
  show ((se A ((((i 0).val * 96 + (i 1).val) * 96 + (i 2).val) / 9216)
    ((((i 0).val * 96 + (i 1).val) * 96 + (i 2).val) / 96 % 96)
    ((((i 0).val * 96 + (i 1).val) * 96 + (i 2).val) % 96) : ℝ) : EReal) = _
  rw [e0, e1, e2]

/-- The gated features. -/
theorem r100 (i : S16x192x96x96.Idx) :
    val_main_v100 (F := Ideal) A.a0 A.a1 A.a2 A.a3 A.a4 A.a5 A.a6 A.a7 i
      = ((y A (i 0).val (i 1).val (i 2).val (i 3).val * se A (i 0).val (i 2).val (i 3).val : ℝ) : EReal) := by
  simp only [val_main_v100_apply, val_main_v99_apply, r15, r98, Ideal.mulf_def, ← EReal.coe_mul]

end Cert.RefFront
-- ==== Proof.RefRow.lean ====
module

public import proofs.«01_k».proof.Proof.RefFront

@[expose] public section

open Idealize Idealize.ShloMosaic.ValueIdx
open Idealize.ShloMosaic hiding ix0 ix1 ix2 ix3 ix4 ix5 ix6 eq_ix2 eq_ix3 eq_ix4

/-! The reference's pass along the rows: knots, weights and the resampled features and saliency. -/

noncomputable section

namespace Cert.RefRow

open Cert.ReferenceIdeal Cert.ReferenceIdeal.Gen Cert.ReferenceIdeal.Read Cert.Model Cert.Words Cert.RefFront
open Cert.Resample

/-- The comparisons of 96 knots with a position count the knots below it. -/
theorem count_card (k : ℕ → ℝ) (q : ℝ) :
    (Finset.univ.filter fun w : Fin 96 => Ideal.cmp .olt ((k w.val : ℝ) : EReal) (q : EReal) = 1#1).card = cnt k q := by
  unfold cnt
  rw [← Finset.card_map Fin.valEmbedding]
  congr 1
  ext n
  have e : ∀ w : ℕ, (Ideal.cmp .olt ((k w : ℝ) : EReal) (q : EReal) = 1#1) ↔ k w < q := by
    intro w
    show (BitVec.ofBool (decide (((k w : ℝ) : EReal) < (q : EReal))) = 1#1) ↔ _
    by_cases h : k w < q
    · simp [h]
    · simp [h]
  simp only [Finset.mem_map, Finset.mem_filter, Finset.mem_univ, true_and, Fin.valEmbedding_apply, Finset.mem_range, e]
  constructor
  · rintro ⟨w, hw, rfl⟩; exact ⟨w.isLt, hw⟩
  · rintro ⟨hn, hw⟩; exact ⟨⟨n, hn⟩, hw, rfl⟩

theorem cnt_le_96 (k : ℕ → ℝ) (q : ℝ) : cnt k q ≤ 96 := by
  unfold cnt
  exact (Finset.card_filter_le _ _).trans (by simp)

/-- The number of the segment, from the count of knots. -/
theorem seg_word (k : ℕ → ℝ) (q : ℝ) :
    IntOp.minsi 94#32 (IntOp.maxsi 0#32 (BitVec.ofNat 32 (cnt k q) - 1#32)) = BitVec.ofNat 32 (seg k q) :=
  clip94_word ⟨cnt k q, by have := cnt_le_96 k q; omega⟩

theorem idx_3 (b : Fin 16) (h : Fin 96) (j : Fin 48) : idx_main_call5_v5 (ix4 b h j 0) = ix3 b h j := by
  have h0 := b.isLt
  have h1 := h.isLt
  have h2 := j.isLt
  funext a
  refine Fin.ext ?_
  match a with
  | ⟨0, _⟩ => show (((b.val * 96 + h.val) * 48 + j.val) * 1 + 0) / 4608 = b.val; omega
  | ⟨1, _⟩ => show (((b.val * 96 + h.val) * 48 + j.val) * 1 + 0) / 48 % 96 = h.val; omega
  | ⟨2, _⟩ => show (((b.val * 96 + h.val) * 48 + j.val) * 1 + 0) % 48 = j.val; omega

theorem idx_4 (b : Fin 16) (c : Fin 192) (h : Fin 96) (j : Fin 48) :
    idx_main_call7_v5 (ix5 b c h j 0) = ix4 b c h j := by
  have h0 := b.isLt
  have h1 := c.isLt
  have h2 := h.isLt
  have h3 := j.isLt
  funext a
  refine Fin.ext ?_
  match a with
  | ⟨0, _⟩ => show ((((b.val * 192 + c.val) * 96 + h.val) * 48 + j.val) * 1 + 0) / 884736 = b.val; omega
  | ⟨1, _⟩ => show ((((b.val * 192 + c.val) * 96 + h.val) * 48 + j.val) * 1 + 0) / 4608 % 192 = c.val; omega
  | ⟨2, _⟩ => show ((((b.val * 192 + c.val) * 96 + h.val) * 48 + j.val) * 1 + 0) / 48 % 96 = h.val; omega
  | ⟨3, _⟩ => show ((((b.val * 192 + c.val) * 96 + h.val) * 48 + j.val) * 1 + 0) % 48 = j.val; omega

variable (A : Args)

/-- The segment of a row's position. -/
def segX (b h j : ℕ) : ℕ := seg (knotX A b h) (at2 j)

theorem segX_le (b h j : ℕ) : segX A b h j ≤ 94 := seg_le

/-- Saliency, offset. -/
theorem r103 (i : S16x96x96.Idx) :
    val_main_v103 (F := Ideal) A.a0 A.a1 A.a2 A.a3 A.a4 A.a5 A.a6 A.a7 i
      = ((se A (i 0).val (i 1).val (i 2).val + e3 : ℝ) : EReal) := by
  simp only [val_main_v103_apply, val_main_v102_apply, val_main_cst_23_apply, r101, w_e3, Ideal.addf_def,
    ← EReal.coe_add]

/-- Its row sums. -/
theorem r104 (i : S16x96.Idx) :
    val_main_v104 (F := Ideal) A.a0 A.a1 A.a2 A.a3 A.a4 A.a5 A.a6 A.a7 i
      = ((∑ k ∈ Finset.range 96, (se A (i 0).val (i 1).val k + e3) : ℝ) : EReal) := by
  simp only [val_main_v104_apply, val_main_cst_24_apply, w_zero, r103]
  rw [sum_coe (n := 96) (fun k => ((se A (i 0).val (i 1).val k.val + e3 : ℝ) : EReal)) (fun k => se A (i 0).val (i 1).val k + e3)
    (fun k => rfl), EReal.coe_zero, zero_add]

/-- The increments of a row's knots. -/
theorem r111 (i : S16x96x96.Idx) :
    val_main_v111 (F := Ideal) A.a0 A.a1 A.a2 A.a3 A.a4 A.a5 A.a6 A.a7 i
      = ((step (se A (i 0).val (i 1).val) (i 2).val : ℝ) : EReal) := by
  have hp : (∑ k ∈ Finset.range 96, (se A (i 0).val (i 1).val k + e3) : ℝ) ≠ 0 :=
    (total_pos fun w hw => se_pos A _ _ w (i 1).isLt hw).ne'
  simp only [val_main_v111_apply, val_main_v110_apply, val_main_cst_26_apply, val_main_v109_apply,
    val_main_v108_apply, val_main_v107_apply, val_main_v106_apply, val_main_cst_25_apply, val_main_v105_apply,
    r103, r104, w_half, w_48, Ideal.addf_def, Ideal.mulf_def, Ideal.hostDivf_def]
  refine (congrArg (fun t => t * _ + _) (div_real 48 hp)).trans ?_
  simp only [← EReal.coe_add, ← EReal.coe_mul]
  rfl

/-- A row's knots. -/
theorem r112 (i : S16x96x96.Idx) :
    val_main_v112 (F := Ideal) A.a0 A.a1 A.a2 A.a3 A.a4 A.a5 A.a6 A.a7 i
      = ((knotX A (i 0).val (i 1).val (i 2).val : ℝ) : EReal) := by
  obtain ⟨b, h, w, rfl⟩ : ∃ (b : Fin 16) (h : Fin 96) (w : Fin 96), i = ix3 b h w := ⟨_, _, _, eq_ix3 i⟩
  unfold val_main_v112
  refine (Cert.Folds.cumsum_last (B := 16) (H := 96) (u := S_) _ _
    reduceWindows_S16x96x96_S16x96x96_w1s1p0_0_w1s1p0_0_w96s1p95_0 h_S_ ?_ b h w
    (fun k => ((step (se A b.val h.val) k : ℝ) : EReal)) (fun k => r111 A (ix3 b h k))).trans ?_
  · simp only [val_main_call3_call0_v0_apply, val_main_call3_call0_cst_apply, w_zero]; rfl
  · exact (coe_sum _ _).symm

/-- The sampling positions. -/
theorem r115 (i : S48.Idx) : val_main_v115 (F := Ideal) i = ((at2 (i 0).val : ℝ) : EReal) := by
  have hi : (i 0).val < 48 := (i 0).isLt
  simp only [val_main_v115_apply, val_main_v114_apply, val_main_cst_27_apply, w_two, Ideal.mulf_def]
  show ((((BitVec.ofNat 32 (i 0).val).toInt : ℝ)) : EReal) * ((2 : ℝ) : EReal) = _
  rw [toInt_word _ (by omega), ← EReal.coe_mul]
  rfl

/-- The count of a row's knots below a position. -/
theorem r122 (i : S16x96x48.Idx) :
    val_main_v122 (F := Ideal) A.a0 A.a1 A.a2 A.a3 A.a4 A.a5 A.a6 A.a7 i
      = BitVec.ofNat 32 (cnt (knotX A (i 0).val (i 1).val) (at2 (i 2).val)) := by
  obtain ⟨b, h, j, rfl⟩ : ∃ (b : Fin 16) (h : Fin 96) (j : Fin 48), i = ix3 b h j := ⟨_, _, _, eq_ix3 i⟩
  unfold val_main_v122
  refine (Cert.Folds.count_mid (B := 16) (H := 96) (N := 96) (M := 48) (u := S_) _ _ _ _ rfl b h j
    (fun k => Ideal.cmp .olt ((knotX A b.val h.val k.val : ℝ) : EReal) ((at2 j.val : ℝ) : EReal)) ?_).trans ?_
  · intro k
    simp only [val_main_v121_apply, val_main_v120_apply, val_main_v118_apply, val_main_v116_apply,
      val_main_v119_apply, val_main_v117_apply, r112, r115]
    rfl
  · rw [count_card]

/-- The segment of a row's position. -/
theorem r125 (i : S16x96x48.Idx) :
    val_main_v125 (F := Ideal) A.a0 A.a1 A.a2 A.a3 A.a4 A.a5 A.a6 A.a7 i
      = BitVec.ofNat 32 (segX A (i 0).val (i 1).val (i 2).val) := by
  simp only [val_main_v125_apply, val_main_call4_v4_apply, val_main_call4_v3_apply, val_main_c_31_apply,
    val_main_call4_v2_apply, val_main_call4_v1_apply, val_main_call4_v0_apply, val_main_c_30_apply, val_main_v124_apply,
    val_main_v123_apply, val_main_c_29_apply, r122]
  exact seg_word _ _

/-- The knot at the start of the segment. -/
theorem r126 (i : S16x96x48.Idx) :
    val_main_v126 (F := Ideal) A.a0 A.a1 A.a2 A.a3 A.a4 A.a5 A.a6 A.a7 i
      = ((knotX A (i 0).val (i 1).val (segX A (i 0).val (i 1).val (i 2).val) : ℝ) : EReal) := by
  obtain ⟨b, h, j, rfl⟩ : ∃ (b : Fin 16) (h : Fin 96) (j : Fin 48), i = ix3 b h j := ⟨_, _, _, eq_ix3 i⟩
  unfold val_main_v126
  refine (Cert.Gathers.along3_apply (B := 16) (H := 96) (N := 96) (M := 48) (by norm_num)
    gather_S16x96x96_S16x96x48x1_S16x96x48_n_2_01_01_2_3_111.wf _ _ b h j).trans ?_
  rw [r112]
  simp only [val_main_call5_v5_apply, show idx_main_call5_v5 (ix4 b h j 0) = ix3 b h j from idx_3 b h j, val_main_call5_v4_apply, val_main_call5_v3_apply, val_main_call5_v2_apply, val_main_call5_v1_apply, val_main_call5_v0_apply,
    val_main_call5_c_apply, val_main_call5_c_0_apply, r125, IntOp.addi]
  have e := take96_word ⟨segX A b.val h.val j.val, by have := segX_le A b.val h.val j.val; omega⟩
  exact congrArg (fun n : ℕ => ((knotX A b.val h.val n : ℝ) : EReal)) e

/-- The knot at its end. -/
theorem r129 (i : S16x96x48.Idx) :
    val_main_v129 (F := Ideal) A.a0 A.a1 A.a2 A.a3 A.a4 A.a5 A.a6 A.a7 i
      = ((knotX A (i 0).val (i 1).val (segX A (i 0).val (i 1).val (i 2).val + 1) : ℝ) : EReal) := by
  obtain ⟨b, h, j, rfl⟩ : ∃ (b : Fin 16) (h : Fin 96) (j : Fin 48), i = ix3 b h j := ⟨_, _, _, eq_ix3 i⟩
  unfold val_main_v129
  refine (Cert.Gathers.along3_apply (B := 16) (H := 96) (N := 96) (M := 48) (by norm_num)
    gather_S16x96x96_S16x96x48x1_S16x96x48_n_2_01_01_2_3_111.wf _ _ b h j).trans ?_
  rw [r112]
  simp only [val_main_call6_v5_apply, show idx_main_call6_v5 (ix4 b h j 0) = ix3 b h j from idx_3 b h j, val_main_call6_v4_apply, val_main_call6_v3_apply, val_main_call6_v2_apply, val_main_call6_v1_apply, val_main_call6_v0_apply,
    val_main_call6_c_apply, val_main_call6_c_0_apply, val_main_v128_apply, val_main_v127_apply, val_main_c_32_apply, r125, IntOp.addi, succ_word]
  have e := take96_word ⟨segX A b.val h.val j.val + 1, by have := segX_le A b.val h.val j.val; omega⟩
  exact congrArg (fun n : ℕ => ((knotX A b.val h.val n : ℝ) : EReal)) e

/-- The position's fraction of its segment. -/
theorem r134 (i : S16x96x48.Idx) :
    val_main_v134 (F := Ideal) A.a0 A.a1 A.a2 A.a3 A.a4 A.a5 A.a6 A.a7 i
      = ((par (knotX A (i 0).val (i 1).val) (at2 (i 2).val) : ℝ) : EReal) := by
  have hs := segX_le A (i 0).val (i 1).val (i 2).val
  have hp := knotX_step A (i 0).val (i 1).val (i 1).isLt (segX A (i 0).val (i 1).val (i 2).val) (by omega)
  simp only [val_main_v134_apply, val_main_v133_apply, val_main_v132_apply, val_main_v131_apply, val_main_v130_apply,
    r126, r129, r115, Ideal.subf_def, Ideal.hostDivf_def, ← EReal.coe_sub]
  exact div_real _ (sub_pos.mpr hp).ne'

/-- The gated feature at the start of the segment. -/
theorem r137 (i : S16x192x96x48.Idx) :
    val_main_v137 (F := Ideal) A.a0 A.a1 A.a2 A.a3 A.a4 A.a5 A.a6 A.a7 i
      = ((y A (i 0).val (i 1).val (i 2).val (segX A (i 0).val (i 2).val (i 3).val) * se A (i 0).val (i 2).val (segX A (i 0).val (i 2).val (i 3).val) : ℝ) : EReal) := by
  obtain ⟨b, c, h, j, rfl⟩ : ∃ (b : Fin 16) (c : Fin 192) (h : Fin 96) (j : Fin 48), i = ix4 b c h j :=
    ⟨_, _, _, _, eq_ix4 i⟩
  unfold val_main_v137
  refine (Cert.Gathers.along4_apply (B := 16) (C := 192) (H := 96) (N := 96) (M := 48) (by norm_num)
    gather_S16x192x96x96_S16x192x96x48x1_S16x192x96x48_n_3_012_012_3_4_1111.wf _ _ b c h j).trans ?_
  rw [r100]
  simp only [val_main_call7_v5_apply, show idx_main_call7_v5 (ix5 b c h j 0) = ix4 b c h j from idx_4 b c h j, val_main_call7_v4_apply, val_main_call7_v3_apply, val_main_call7_v2_apply, val_main_call7_v1_apply, val_main_call7_v0_apply,
    val_main_call7_c_apply, val_main_call7_c_0_apply, val_main_v136_apply, val_main_v135_apply, r125, IntOp.addi]
  have e := take96_word ⟨segX A b.val h.val j.val, by have := segX_le A b.val h.val j.val; omega⟩
  exact congrArg (fun n : ℕ => ((y A b.val c.val h.val n * se A b.val h.val n : ℝ) : EReal)) e

/-- The gated feature at its end. -/
theorem r140 (i : S16x192x96x48.Idx) :
    val_main_v140 (F := Ideal) A.a0 A.a1 A.a2 A.a3 A.a4 A.a5 A.a6 A.a7 i
      = ((y A (i 0).val (i 1).val (i 2).val (segX A (i 0).val (i 2).val (i 3).val + 1) * se A (i 0).val (i 2).val (segX A (i 0).val (i 2).val (i 3).val + 1) : ℝ) : EReal) := by
  obtain ⟨b, c, h, j, rfl⟩ : ∃ (b : Fin 16) (c : Fin 192) (h : Fin 96) (j : Fin 48), i = ix4 b c h j :=
    ⟨_, _, _, _, eq_ix4 i⟩
  unfold val_main_v140
  refine (Cert.Gathers.along4_apply (B := 16) (C := 192) (H := 96) (N := 96) (M := 48) (by norm_num)
    gather_S16x192x96x96_S16x192x96x48x1_S16x192x96x48_n_3_012_012_3_4_1111.wf _ _ b c h j).trans ?_
  rw [r100]
  simp only [val_main_call8_v5_apply, show idx_main_call8_v5 (ix5 b c h j 0) = ix4 b c h j from idx_4 b c h j, val_main_call8_v4_apply, val_main_call8_v3_apply, val_main_call8_v2_apply, val_main_call8_v1_apply, val_main_call8_v0_apply,
    val_main_call8_c_apply, val_main_call8_c_0_apply, val_main_v139_apply, val_main_v138_apply, val_main_c_33_apply, val_main_v136_apply, val_main_v135_apply, r125, IntOp.addi, succ_word]
  have e := take96_word ⟨segX A b.val h.val j.val + 1, by have := segX_le A b.val h.val j.val; omega⟩
  exact congrArg (fun n : ℕ => ((y A b.val c.val h.val n * se A b.val h.val n : ℝ) : EReal)) e

/-- The gated features, resampled along the rows. -/
theorem r145 (i : S16x192x96x48.Idx) :
    val_main_v145 (F := Ideal) A.a0 A.a1 A.a2 A.a3 A.a4 A.a5 A.a6 A.a7 i
      = ((mf A (i 0).val (i 1).val (i 2).val (i 3).val : ℝ) : EReal) := by
  simp only [val_main_v145_apply, val_main_v144_apply, val_main_v143_apply, val_main_v142_apply, val_main_v141_apply,
    r137, r140, r134, Ideal.addf_def, Ideal.subf_def, Ideal.mulf_def, ← EReal.coe_add, ← EReal.coe_sub, ← EReal.coe_mul]
  rfl

/-- The saliency at the start of the segment. -/
theorem r146 (i : S16x96x48.Idx) :
    val_main_v146 (F := Ideal) A.a0 A.a1 A.a2 A.a3 A.a4 A.a5 A.a6 A.a7 i
      = ((se A (i 0).val (i 1).val (segX A (i 0).val (i 1).val (i 2).val) : ℝ) : EReal) := by
  obtain ⟨b, h, j, rfl⟩ : ∃ (b : Fin 16) (h : Fin 96) (j : Fin 48), i = ix3 b h j := ⟨_, _, _, eq_ix3 i⟩
  unfold val_main_v146
  refine (Cert.Gathers.along3_apply (B := 16) (H := 96) (N := 96) (M := 48) (by norm_num)
    gather_S16x96x96_S16x96x48x1_S16x96x48_n_2_01_01_2_3_111.wf _ _ b h j).trans ?_
  rw [r101]
  simp only [val_main_call9_v5_apply, show idx_main_call9_v5 (ix4 b h j 0) = ix3 b h j from idx_3 b h j, val_main_call9_v4_apply, val_main_call9_v3_apply, val_main_call9_v2_apply, val_main_call9_v1_apply, val_main_call9_v0_apply,
    val_main_call9_c_apply, val_main_call9_c_0_apply, r125, IntOp.addi]
  have e := take96_word ⟨segX A b.val h.val j.val, by have := segX_le A b.val h.val j.val; omega⟩
  exact congrArg (fun n : ℕ => ((se A b.val h.val n : ℝ) : EReal)) e

/-- The saliency at its end. -/
theorem r149 (i : S16x96x48.Idx) :
    val_main_v149 (F := Ideal) A.a0 A.a1 A.a2 A.a3 A.a4 A.a5 A.a6 A.a7 i
      = ((se A (i 0).val (i 1).val (segX A (i 0).val (i 1).val (i 2).val + 1) : ℝ) : EReal) := by
  obtain ⟨b, h, j, rfl⟩ : ∃ (b : Fin 16) (h : Fin 96) (j : Fin 48), i = ix3 b h j := ⟨_, _, _, eq_ix3 i⟩
  unfold val_main_v149
  refine (Cert.Gathers.along3_apply (B := 16) (H := 96) (N := 96) (M := 48) (by norm_num)
    gather_S16x96x96_S16x96x48x1_S16x96x48_n_2_01_01_2_3_111.wf _ _ b h j).trans ?_
  rw [r101]
  simp only [val_main_call10_v5_apply, show idx_main_call10_v5 (ix4 b h j 0) = ix3 b h j from idx_3 b h j, val_main_call10_v4_apply, val_main_call10_v3_apply, val_main_call10_v2_apply, val_main_call10_v1_apply, val_main_call10_v0_apply,
    val_main_call10_c_apply, val_main_call10_c_0_apply, val_main_v148_apply, val_main_v147_apply, val_main_c_34_apply, r125, IntOp.addi, succ_word]
  have e := take96_word ⟨segX A b.val h.val j.val + 1, by have := segX_le A b.val h.val j.val; omega⟩
  exact congrArg (fun n : ℕ => ((se A b.val h.val n : ℝ) : EReal)) e

/-- The saliency, resampled along the rows. -/
theorem r152 (i : S16x96x48.Idx) :
    val_main_v152 (F := Ideal) A.a0 A.a1 A.a2 A.a3 A.a4 A.a5 A.a6 A.a7 i
      = ((mm A (i 0).val (i 1).val (i 2).val : ℝ) : EReal) := by
  simp only [val_main_v152_apply, val_main_v151_apply, val_main_v150_apply,
    r146, r149, r134, Ideal.addf_def, Ideal.subf_def, Ideal.mulf_def, ← EReal.coe_add, ← EReal.coe_sub, ← EReal.coe_mul]
  rfl

end Cert.RefRow
-- ==== Proof.RefCol.lean ====
module

public import proofs.«01_k».proof.Proof.RefRow

@[expose] public section

open Idealize Idealize.ShloMosaic.ValueIdx
open Idealize.ShloMosaic hiding ix0 ix1 ix2 ix3 ix4 ix5 ix6 eq_ix2 eq_ix3 eq_ix4

/-! The reference's pass along the columns: knots, weights and the resampled features. -/

noncomputable section

namespace Cert.RefCol

open Cert.ReferenceIdeal Cert.ReferenceIdeal.Gen Cert.ReferenceIdeal.Read Cert.Model Cert.Words Cert.RefRow
open Cert.Resample

theorem idx_3 (b : Fin 16) (j r : Fin 48) : idx_main_call13_v5 (ix4 b j r 0) = ix3 b j r := by
  have h0 := b.isLt
  have h1 := j.isLt
  have h2 := r.isLt
  funext a
  refine Fin.ext ?_
  match a with
  | ⟨0, _⟩ => show (((b.val * 48 + j.val) * 48 + r.val) * 1 + 0) / 2304 = b.val; omega
  | ⟨1, _⟩ => show (((b.val * 48 + j.val) * 48 + r.val) * 1 + 0) / 48 % 48 = j.val; omega
  | ⟨2, _⟩ => show (((b.val * 48 + j.val) * 48 + r.val) * 1 + 0) % 48 = r.val; omega

theorem idx_4 (b : Fin 16) (c : Fin 192) (j r : Fin 48) :
    idx_main_call15_v5 (ix5 b c j r 0) = ix4 b c j r := by
  have h0 := b.isLt
  have h1 := c.isLt
  have h2 := j.isLt
  have h3 := r.isLt
  funext a
  refine Fin.ext ?_
  match a with
  | ⟨0, _⟩ => show ((((b.val * 192 + c.val) * 48 + j.val) * 48 + r.val) * 1 + 0) / 442368 = b.val; omega
  | ⟨1, _⟩ => show ((((b.val * 192 + c.val) * 48 + j.val) * 48 + r.val) * 1 + 0) / 2304 % 192 = c.val; omega
  | ⟨2, _⟩ => show ((((b.val * 192 + c.val) * 48 + j.val) * 48 + r.val) * 1 + 0) / 48 % 48 = j.val; omega
  | ⟨3, _⟩ => show ((((b.val * 192 + c.val) * 48 + j.val) * 48 + r.val) * 1 + 0) % 48 = r.val; omega

variable (A : Args)

/-- The segment of a column's position. -/
def segY (b j r : ℕ) : ℕ := seg (knotY A b j) (at2 r)

theorem segY_le (b j r : ℕ) : segY A b j r ≤ 94 := seg_le

/-- Resampled saliency, offset. -/
theorem r154 (i : S16x96x48.Idx) :
    val_main_v154 (F := Ideal) A.a0 A.a1 A.a2 A.a3 A.a4 A.a5 A.a6 A.a7 i
      = ((mm A (i 0).val (i 1).val (i 2).val + e3 : ℝ) : EReal) := by
  simp only [val_main_v154_apply, val_main_v153_apply, val_main_cst_35_apply, r152, w_e3, Ideal.addf_def,
    ← EReal.coe_add]

/-- Its column sums. -/
theorem r155 (i : S16x48.Idx) :
    val_main_v155 (F := Ideal) A.a0 A.a1 A.a2 A.a3 A.a4 A.a5 A.a6 A.a7 i
      = ((∑ k ∈ Finset.range 96, (mm A (i 0).val k (i 1).val + e3) : ℝ) : EReal) := by
  simp only [val_main_v155_apply, val_main_cst_36_apply, w_zero, r154]
  rw [sum_coe (n := 96) (fun k => ((mm A (i 0).val k.val (i 1).val + e3 : ℝ) : EReal))
    (fun k => mm A (i 0).val k (i 1).val + e3) (fun k => rfl), EReal.coe_zero, zero_add]

variable {A}

/-- The increments of a column's knots. -/
theorem r162 (ho : Open A) (i : S16x96x48.Idx) :
    val_main_v162 (F := Ideal) A.a0 A.a1 A.a2 A.a3 A.a4 A.a5 A.a6 A.a7 i
      = ((step (fun h => mm A (i 0).val h (i 2).val) (i 1).val : ℝ) : EReal) := by
  have hp : (∑ k ∈ Finset.range 96, (mm A (i 0).val k (i 2).val + e3) : ℝ) ≠ 0 :=
    (total_pos (s := fun h => mm A (i 0).val h (i 2).val)
      fun h hh => mm_pos ho (i 0).isLt h (i 2).val hh (i 2).isLt).ne'
  simp only [val_main_v162_apply, val_main_v161_apply, val_main_cst_38_apply, val_main_v160_apply,
    val_main_v159_apply, val_main_v158_apply, val_main_v157_apply, val_main_cst_37_apply, val_main_v156_apply,
    r154, r155, w_half, w_48, Ideal.addf_def, Ideal.mulf_def, Ideal.hostDivf_def]
  refine (congrArg (fun t => t * _ + _) (div_real 48 hp)).trans ?_
  simp only [← EReal.coe_add, ← EReal.coe_mul]
  rfl

/-- A column's knots, down the column. -/
theorem r163 (ho : Open A) (i : S16x96x48.Idx) :
    val_main_v163 (F := Ideal) A.a0 A.a1 A.a2 A.a3 A.a4 A.a5 A.a6 A.a7 i
      = ((knotY A (i 0).val (i 2).val (i 1).val : ℝ) : EReal) := by
  obtain ⟨b, h, j, rfl⟩ : ∃ (b : Fin 16) (h : Fin 96) (j : Fin 48), i = ix3 b h j := ⟨_, _, _, eq_ix3 i⟩
  unfold val_main_v163
  refine (Cert.Folds.cumsum_mid (B := 16) (M := 48) (u := S_) _ _
    reduceWindows_S16x96x48_S16x96x48_w1s1p0_0_w96s1p95_0_w1s1p0_0 h_S_ ?_ b h j
    (fun k => ((step (fun h => mm A b.val h j.val) k : ℝ) : EReal)) (fun k => r162 ho (ix3 b k j))).trans ?_
  · simp only [val_main_call11_call0_v0_apply, val_main_call11_call0_cst_apply, w_zero]; rfl
  · exact (coe_sum _ _).symm

/-- A column's knots, columns first. -/
theorem r164 (ho : Open A) (i : S16x48x96.Idx) :
    val_main_v164 (F := Ideal) A.a0 A.a1 A.a2 A.a3 A.a4 A.a5 A.a6 A.a7 i
      = ((knotY A (i 0).val (i 1).val (i 2).val : ℝ) : EReal) := by
  rw [val_main_v164_apply, r163 ho]

/-- The sampling positions. -/
theorem r167 (i : S48.Idx) : val_main_v167 (F := Ideal) i = ((at2 (i 0).val : ℝ) : EReal) := by
  have hi : (i 0).val < 48 := (i 0).isLt
  simp only [val_main_v167_apply, val_main_v166_apply, val_main_cst_39_apply, w_two, Ideal.mulf_def]
  show ((((BitVec.ofNat 32 (i 0).val).toInt : ℝ)) : EReal) * ((2 : ℝ) : EReal) = _
  rw [toInt_word _ (by omega), ← EReal.coe_mul]
  rfl

/-- The count of a column's knots below a position. -/
theorem r174 (ho : Open A) (i : S16x48x48.Idx) :
    val_main_v174 (F := Ideal) A.a0 A.a1 A.a2 A.a3 A.a4 A.a5 A.a6 A.a7 i
      = BitVec.ofNat 32 (cnt (knotY A (i 0).val (i 1).val) (at2 (i 2).val)) := by
  obtain ⟨b, j, r, rfl⟩ : ∃ (b : Fin 16) (j : Fin 48) (r : Fin 48), i = ix3 b j r := ⟨_, _, _, eq_ix3 i⟩
  unfold val_main_v174
  refine (Cert.Folds.count_mid (B := 16) (H := 48) (N := 96) (M := 48) (u := S_) _ _ _ _ rfl b j r
    (fun k => Ideal.cmp .olt ((knotY A b.val j.val k.val : ℝ) : EReal) ((at2 r.val : ℝ) : EReal)) ?_).trans ?_
  · intro k
    simp only [val_main_v173_apply, val_main_v172_apply, val_main_v170_apply, val_main_v168_apply,
      val_main_v171_apply, val_main_v169_apply, r164 ho, r167]
    rfl
  · rw [count_card]

/-- The segment of a column's position. -/
theorem r177 (ho : Open A) (i : S16x48x48.Idx) :
    val_main_v177 (F := Ideal) A.a0 A.a1 A.a2 A.a3 A.a4 A.a5 A.a6 A.a7 i
      = BitVec.ofNat 32 (segY A (i 0).val (i 1).val (i 2).val) := by
  simp only [val_main_v177_apply, val_main_call12_v4_apply, val_main_call12_v3_apply, val_main_c_43_apply,
    val_main_call12_v2_apply, val_main_call12_v1_apply, val_main_call12_v0_apply, val_main_c_42_apply,
    val_main_v176_apply, val_main_v175_apply, val_main_c_41_apply, r174 ho]
  exact seg_word _ _

/-- The knot at the start of the segment. -/
theorem r178 (ho : Open A) (i : S16x48x48.Idx) :
    val_main_v178 (F := Ideal) A.a0 A.a1 A.a2 A.a3 A.a4 A.a5 A.a6 A.a7 i
      = ((knotY A (i 0).val (i 1).val (segY A (i 0).val (i 1).val (i 2).val) : ℝ) : EReal) := by
  obtain ⟨b, j, r, rfl⟩ : ∃ (b : Fin 16) (j : Fin 48) (r : Fin 48), i = ix3 b j r := ⟨_, _, _, eq_ix3 i⟩
  unfold val_main_v178
  refine (Cert.Gathers.along3_apply (B := 16) (H := 48) (N := 96) (M := 48) (by norm_num)
    gather_S16x48x96_S16x48x48x1_S16x48x48_n_2_01_01_2_3_111.wf _ _ b j r).trans ?_
  rw [r164 ho]
  simp only [val_main_call13_v5_apply, show idx_main_call13_v5 (ix4 b j r 0) = ix3 b j r from idx_3 b j r, val_main_call13_v4_apply,
    val_main_call13_v3_apply, val_main_call13_v2_apply, val_main_call13_v1_apply, val_main_call13_v0_apply,
    val_main_call13_c_apply, val_main_call13_c_0_apply, r177 ho, IntOp.addi]
  have e := take96_word ⟨segY A b.val j.val r.val, by have := segY_le A b.val j.val r.val; omega⟩
  exact congrArg (fun n : ℕ => ((knotY A b.val j.val n : ℝ) : EReal)) e

/-- The knot at its end. -/
theorem r181 (ho : Open A) (i : S16x48x48.Idx) :
    val_main_v181 (F := Ideal) A.a0 A.a1 A.a2 A.a3 A.a4 A.a5 A.a6 A.a7 i
      = ((knotY A (i 0).val (i 1).val (segY A (i 0).val (i 1).val (i 2).val + 1) : ℝ) : EReal) := by
  obtain ⟨b, j, r, rfl⟩ : ∃ (b : Fin 16) (j : Fin 48) (r : Fin 48), i = ix3 b j r := ⟨_, _, _, eq_ix3 i⟩
  unfold val_main_v181
  refine (Cert.Gathers.along3_apply (B := 16) (H := 48) (N := 96) (M := 48) (by norm_num)
    gather_S16x48x96_S16x48x48x1_S16x48x48_n_2_01_01_2_3_111.wf _ _ b j r).trans ?_
  rw [r164 ho]
  simp only [val_main_call14_v5_apply, show idx_main_call14_v5 (ix4 b j r 0) = ix3 b j r from idx_3 b j r, val_main_call14_v4_apply,
    val_main_call14_v3_apply, val_main_call14_v2_apply, val_main_call14_v1_apply, val_main_call14_v0_apply,
    val_main_call14_c_apply, val_main_call14_c_0_apply, val_main_v180_apply, val_main_v179_apply, val_main_c_44_apply, r177 ho, IntOp.addi, succ_word]
  have e := take96_word ⟨segY A b.val j.val r.val + 1, by have := segY_le A b.val j.val r.val; omega⟩
  exact congrArg (fun n : ℕ => ((knotY A b.val j.val n : ℝ) : EReal)) e

/-- The position's fraction of its segment. -/
theorem r186 (ho : Open A) (i : S16x48x48.Idx) :
    val_main_v186 (F := Ideal) A.a0 A.a1 A.a2 A.a3 A.a4 A.a5 A.a6 A.a7 i
      = ((par (knotY A (i 0).val (i 1).val) (at2 (i 2).val) : ℝ) : EReal) := by
  have hs := segY_le A (i 0).val (i 1).val (i 2).val
  have hp := knotY_step ho (i 0).isLt (i 1).val (i 1).isLt (segY A (i 0).val (i 1).val (i 2).val) (by omega)
  simp only [val_main_v186_apply, val_main_v185_apply, val_main_v184_apply, val_main_v183_apply, val_main_v182_apply,
    r178 ho, r181 ho, r167, Ideal.subf_def, Ideal.hostDivf_def, ← EReal.coe_sub]
  exact div_real _ (sub_pos.mpr hp).ne'

/-- The features of the row pass, columns first. -/
theorem r187 (i : S16x192x48x96.Idx) :
    val_main_v187 (F := Ideal) A.a0 A.a1 A.a2 A.a3 A.a4 A.a5 A.a6 A.a7 i
      = ((mf A (i 0).val (i 1).val (i 3).val (i 2).val : ℝ) : EReal) := by
  rw [val_main_v187_apply, r145]

/-- The feature at the start of the segment. -/
theorem r190 (ho : Open A) (i : S16x192x48x48.Idx) :
    val_main_v190 (F := Ideal) A.a0 A.a1 A.a2 A.a3 A.a4 A.a5 A.a6 A.a7 i
      = ((mf A (i 0).val (i 1).val (segY A (i 0).val (i 2).val (i 3).val) (i 2).val : ℝ) : EReal) := by
  obtain ⟨b, c, j, r, rfl⟩ : ∃ (b : Fin 16) (c : Fin 192) (j : Fin 48) (r : Fin 48), i = ix4 b c j r :=
    ⟨_, _, _, _, eq_ix4 i⟩
  unfold val_main_v190
  refine (Cert.Gathers.along4_apply (B := 16) (C := 192) (H := 48) (N := 96) (M := 48) (by norm_num)
    gather_S16x192x48x96_S16x192x48x48x1_S16x192x48x48_n_3_012_012_3_4_1111.wf _ _ b c j r).trans ?_
  rw [r187]
  simp only [val_main_call15_v5_apply, show idx_main_call15_v5 (ix5 b c j r 0) = ix4 b c j r from idx_4 b c j r, val_main_call15_v4_apply,
    val_main_call15_v3_apply, val_main_call15_v2_apply, val_main_call15_v1_apply, val_main_call15_v0_apply,
    val_main_call15_c_apply, val_main_call15_c_0_apply, val_main_v189_apply, val_main_v188_apply, r177 ho, IntOp.addi]
  have e := take96_word ⟨segY A b.val j.val r.val, by have := segY_le A b.val j.val r.val; omega⟩
  exact congrArg (fun n : ℕ => ((mf A b.val c.val n j.val : ℝ) : EReal)) e

/-- The feature at its end. -/
theorem r193 (ho : Open A) (i : S16x192x48x48.Idx) :
    val_main_v193 (F := Ideal) A.a0 A.a1 A.a2 A.a3 A.a4 A.a5 A.a6 A.a7 i
      = ((mf A (i 0).val (i 1).val (segY A (i 0).val (i 2).val (i 3).val + 1) (i 2).val : ℝ) : EReal) := by
  obtain ⟨b, c, j, r, rfl⟩ : ∃ (b : Fin 16) (c : Fin 192) (j : Fin 48) (r : Fin 48), i = ix4 b c j r :=
    ⟨_, _, _, _, eq_ix4 i⟩
  unfold val_main_v193
  refine (Cert.Gathers.along4_apply (B := 16) (C := 192) (H := 48) (N := 96) (M := 48) (by norm_num)
    gather_S16x192x48x96_S16x192x48x48x1_S16x192x48x48_n_3_012_012_3_4_1111.wf _ _ b c j r).trans ?_
  rw [r187]
  simp only [val_main_call16_v5_apply, show idx_main_call16_v5 (ix5 b c j r 0) = ix4 b c j r from idx_4 b c j r, val_main_call16_v4_apply,
    val_main_call16_v3_apply, val_main_call16_v2_apply, val_main_call16_v1_apply, val_main_call16_v0_apply,
    val_main_call16_c_apply, val_main_call16_c_0_apply, val_main_v192_apply, val_main_v191_apply, val_main_c_45_apply, val_main_v189_apply, val_main_v188_apply, r177 ho, IntOp.addi, succ_word]
  have e := take96_word ⟨segY A b.val j.val r.val + 1, by have := segY_le A b.val j.val r.val; omega⟩
  exact congrArg (fun n : ℕ => ((mf A b.val c.val n j.val : ℝ) : EReal)) e

/-- The resampled features, columns first. -/
theorem r198 (ho : Open A) (i : S16x192x48x48.Idx) :
    val_main_v198 (F := Ideal) A.a0 A.a1 A.a2 A.a3 A.a4 A.a5 A.a6 A.a7 i
      = ((ff A (i 0).val (i 1).val (i 3).val (i 2).val : ℝ) : EReal) := by
  simp only [val_main_v198_apply, val_main_v197_apply, val_main_v196_apply, val_main_v195_apply, val_main_v194_apply,
    r190 ho, r193 ho, r186 ho, Ideal.addf_def, Ideal.subf_def, Ideal.mulf_def, ← EReal.coe_add, ← EReal.coe_sub,
    ← EReal.coe_mul]
  rfl

/-- The resampled features. -/
theorem r199 (ho : Open A) (i : S16x192x48x48.Idx) :
    val_main_v199 (F := Ideal) A.a0 A.a1 A.a2 A.a3 A.a4 A.a5 A.a6 A.a7 i
      = ((ff A (i 0).val (i 1).val (i 2).val (i 3).val : ℝ) : EReal) := by
  rw [val_main_v199_apply, r198 ho]

end Cert.RefCol
-- ==== Proof.RefBack.lean ====
module

public import proofs.«01_k».proof.Proof.RefCol

@[expose] public section

open Idealize Idealize.ShloMosaic.ValueIdx
open Idealize.ShloMosaic hiding ix0 ix1 ix2 ix3 ix4 ix5 ix6 eq_ix2 eq_ix3 eq_ix4

/-! The reference from its resampled features on: the nine taps, the normalisations and the projection. -/

noncomputable section

namespace Cert.RefBack

open Cert.ReferenceIdeal Cert.ReferenceIdeal.Gen Cert.ReferenceIdeal.Read Cert.Model Cert.Words Cert.RefCol

variable {A : Args}

/-- The resampled features inside their frame of zeros. -/
theorem r200 (ho : Open A) (i : S16x192x50x50.Idx) :
    val_main_v200 (F := Ideal) A.a0 A.a1 A.a2 A.a3 A.a4 A.a5 A.a6 A.a7 i = ((fp A (i 0).val (i 1).val (i 2).val (i 3).val : ℝ) : EReal) := by
  have h0 : (i 0).val < 16 := (i 0).isLt
  have h1 : (i 1).val < 192 := (i 1).isLt
  unfold val_main_v200 pad Cert.Model.fp
  by_cases hh : (1 ≤ (i 2).val ∧ (i 2).val ≤ 48) ∧ (1 ≤ (i 3).val ∧ (i 3).val ≤ 48)
  · rw [if_pos hh]
    refine (dif_pos (fun a : Fin 4 => ?_)).trans ?_
    · match a with
      | ⟨0, _⟩ => exact ⟨Nat.zero_le _, Nat.mod_one _, by show ((i 0).val - 0) / 1 < 16; omega⟩
      | ⟨1, _⟩ => exact ⟨Nat.zero_le _, Nat.mod_one _, by show ((i 1).val - 0) / 1 < 192; omega⟩
      | ⟨2, _⟩ => exact ⟨hh.1.1, Nat.mod_one _, by show ((i 2).val - 1) / 1 < 48; omega⟩
      | ⟨3, _⟩ => exact ⟨hh.2.1, Nat.mod_one _, by show ((i 3).val - 1) / 1 < 48; omega⟩
    · rw [r199 ho]
      show ((ff A (((i 0).val - 0) / 1) (((i 1).val - 0) / 1) (((i 2).val - 1) / 1) (((i 3).val - 1) / 1) : ℝ) : EReal) = _
      simp only [Nat.div_one, Nat.sub_zero]
  · rw [if_neg hh]
    refine (dif_neg fun hin => hh ?_).trans ?_
    · have h2 : 1 ≤ (i 2).val ∧ _ ∧ ((i 2).val - 1) / 1 < 48 := hin (2 : Fin 4)
      have h3 : 1 ≤ (i 3).val ∧ _ ∧ ((i 3).val - 1) / 1 < 48 := hin (3 : Fin 4)
      have e2 := h2.2.2
      have e3 := h3.2.2
      rw [Nat.div_one] at e2 e3
      have f2 := h2.1
      have f3 := h3.1
      omega
    · show ((((0#32).toInt : ℝ)) : EReal) = _
      rw [toInt_word 0 (by norm_num)]
      norm_num

/-- Tap 0, 0. -/
theorem r206 (ho : Open A) (i : S16x192x48x48.Idx) :
    val_main_v206 (F := Ideal) A.a0 A.a1 A.a2 A.a3 A.a4 A.a5 A.a6 A.a7 A.a8 i
      = ((fp A (i 0).val (i 1).val ((i 2).val + 0) ((i 3).val + 0) * A.wd (i 1).val 0 0 : ℝ) : EReal) := by
  simp only [val_main_v206_apply, val_main_v201_apply, val_main_v202_apply, val_main_v203_apply,
    val_main_v204_apply, val_main_v205_apply, r200 ho, Ideal.mulf_def]
  show ((fp A (i 0).val (i 1).val ((i 2).val) ((i 3).val) : ℝ) : EReal) * ((A.wd ((i 1).val / 1) 0 0 : ℝ) : EReal) = _
  rw [Nat.div_one, ← EReal.coe_mul]
  rfl

/-- Tap 0, 1. -/
theorem r214 (ho : Open A) (i : S16x192x48x48.Idx) :
    val_main_v214 (F := Ideal) A.a0 A.a1 A.a2 A.a3 A.a4 A.a5 A.a6 A.a7 A.a8 i
      = ((fp A (i 0).val (i 1).val ((i 2).val + 0) ((i 3).val + 1) * A.wd (i 1).val 0 1 : ℝ) : EReal) := by
  simp only [val_main_v214_apply, val_main_v209_apply, val_main_v210_apply, val_main_v211_apply,
    val_main_v212_apply, val_main_v213_apply, r200 ho, Ideal.mulf_def]
  show ((fp A (i 0).val (i 1).val ((i 2).val) (1 + (i 3).val) : ℝ) : EReal) * ((A.wd ((i 1).val / 1) 0 1 : ℝ) : EReal) = _
  rw [Nat.div_one, ← EReal.coe_mul, Nat.add_comm 1 (i 3).val]
  rfl

/-- Tap 0, 2. -/
theorem r221 (ho : Open A) (i : S16x192x48x48.Idx) :
    val_main_v221 (F := Ideal) A.a0 A.a1 A.a2 A.a3 A.a4 A.a5 A.a6 A.a7 A.a8 i
      = ((fp A (i 0).val (i 1).val ((i 2).val + 0) ((i 3).val + 2) * A.wd (i 1).val 0 2 : ℝ) : EReal) := by
  simp only [val_main_v221_apply, val_main_v216_apply, val_main_v217_apply, val_main_v218_apply,
    val_main_v219_apply, val_main_v220_apply, r200 ho, Ideal.mulf_def]
  show ((fp A (i 0).val (i 1).val ((i 2).val) (2 + (i 3).val) : ℝ) : EReal) * ((A.wd ((i 1).val / 1) 0 2 : ℝ) : EReal) = _
  rw [Nat.div_one, ← EReal.coe_mul, Nat.add_comm 2 (i 3).val]
  rfl

/-- Tap 1, 0. -/
theorem r228 (ho : Open A) (i : S16x192x48x48.Idx) :
    val_main_v228 (F := Ideal) A.a0 A.a1 A.a2 A.a3 A.a4 A.a5 A.a6 A.a7 A.a8 i
      = ((fp A (i 0).val (i 1).val ((i 2).val + 1) ((i 3).val + 0) * A.wd (i 1).val 1 0 : ℝ) : EReal) := by
  simp only [val_main_v228_apply, val_main_v223_apply, val_main_v224_apply, val_main_v225_apply,
    val_main_v226_apply, val_main_v227_apply, r200 ho, Ideal.mulf_def]
  show ((fp A (i 0).val (i 1).val (1 + (i 2).val) ((i 3).val) : ℝ) : EReal) * ((A.wd ((i 1).val / 1) 1 0 : ℝ) : EReal) = _
  rw [Nat.div_one, ← EReal.coe_mul, Nat.add_comm 1 (i 2).val]
  rfl

/-- Tap 1, 1. -/
theorem r235 (ho : Open A) (i : S16x192x48x48.Idx) :
    val_main_v235 (F := Ideal) A.a0 A.a1 A.a2 A.a3 A.a4 A.a5 A.a6 A.a7 A.a8 i
      = ((fp A (i 0).val (i 1).val ((i 2).val + 1) ((i 3).val + 1) * A.wd (i 1).val 1 1 : ℝ) : EReal) := by
  simp only [val_main_v235_apply, val_main_v230_apply, val_main_v231_apply, val_main_v232_apply,
    val_main_v233_apply, val_main_v234_apply, r200 ho, Ideal.mulf_def]
  show ((fp A (i 0).val (i 1).val (1 + (i 2).val) (1 + (i 3).val) : ℝ) : EReal) * ((A.wd ((i 1).val / 1) 1 1 : ℝ) : EReal) = _
  rw [Nat.div_one, ← EReal.coe_mul, Nat.add_comm 1 (i 2).val, Nat.add_comm 1 (i 3).val]

/-- Tap 1, 2. -/
theorem r242 (ho : Open A) (i : S16x192x48x48.Idx) :
    val_main_v242 (F := Ideal) A.a0 A.a1 A.a2 A.a3 A.a4 A.a5 A.a6 A.a7 A.a8 i
      = ((fp A (i 0).val (i 1).val ((i 2).val + 1) ((i 3).val + 2) * A.wd (i 1).val 1 2 : ℝ) : EReal) := by
  simp only [val_main_v242_apply, val_main_v237_apply, val_main_v238_apply, val_main_v239_apply,
    val_main_v240_apply, val_main_v241_apply, r200 ho, Ideal.mulf_def]
  show ((fp A (i 0).val (i 1).val (1 + (i 2).val) (2 + (i 3).val) : ℝ) : EReal) * ((A.wd ((i 1).val / 1) 1 2 : ℝ) : EReal) = _
  rw [Nat.div_one, ← EReal.coe_mul, Nat.add_comm 1 (i 2).val, Nat.add_comm 2 (i 3).val]

/-- Tap 2, 0. -/
theorem r249 (ho : Open A) (i : S16x192x48x48.Idx) :
    val_main_v249 (F := Ideal) A.a0 A.a1 A.a2 A.a3 A.a4 A.a5 A.a6 A.a7 A.a8 i
      = ((fp A (i 0).val (i 1).val ((i 2).val + 2) ((i 3).val + 0) * A.wd (i 1).val 2 0 : ℝ) : EReal) := by
  simp only [val_main_v249_apply, val_main_v244_apply, val_main_v245_apply, val_main_v246_apply,
    val_main_v247_apply, val_main_v248_apply, r200 ho, Ideal.mulf_def]
  show ((fp A (i 0).val (i 1).val (2 + (i 2).val) ((i 3).val) : ℝ) : EReal) * ((A.wd ((i 1).val / 1) 2 0 : ℝ) : EReal) = _
  rw [Nat.div_one, ← EReal.coe_mul, Nat.add_comm 2 (i 2).val]
  rfl

/-- Tap 2, 1. -/
theorem r256 (ho : Open A) (i : S16x192x48x48.Idx) :
    val_main_v256 (F := Ideal) A.a0 A.a1 A.a2 A.a3 A.a4 A.a5 A.a6 A.a7 A.a8 i
      = ((fp A (i 0).val (i 1).val ((i 2).val + 2) ((i 3).val + 1) * A.wd (i 1).val 2 1 : ℝ) : EReal) := by
  simp only [val_main_v256_apply, val_main_v251_apply, val_main_v252_apply, val_main_v253_apply,
    val_main_v254_apply, val_main_v255_apply, r200 ho, Ideal.mulf_def]
  show ((fp A (i 0).val (i 1).val (2 + (i 2).val) (1 + (i 3).val) : ℝ) : EReal) * ((A.wd ((i 1).val / 1) 2 1 : ℝ) : EReal) = _
  rw [Nat.div_one, ← EReal.coe_mul, Nat.add_comm 2 (i 2).val, Nat.add_comm 1 (i 3).val]

/-- Tap 2, 2. -/
theorem r263 (ho : Open A) (i : S16x192x48x48.Idx) :
    val_main_v263 (F := Ideal) A.a0 A.a1 A.a2 A.a3 A.a4 A.a5 A.a6 A.a7 A.a8 i
      = ((fp A (i 0).val (i 1).val ((i 2).val + 2) ((i 3).val + 2) * A.wd (i 1).val 2 2 : ℝ) : EReal) := by
  simp only [val_main_v263_apply, val_main_v258_apply, val_main_v259_apply, val_main_v260_apply,
    val_main_v261_apply, val_main_v262_apply, r200 ho, Ideal.mulf_def]
  show ((fp A (i 0).val (i 1).val (2 + (i 2).val) (2 + (i 3).val) : ℝ) : EReal) * ((A.wd ((i 1).val / 1) 2 2 : ℝ) : EReal) = _
  rw [Nat.div_one, ← EReal.coe_mul, Nat.add_comm 2 (i 2).val, Nat.add_comm 2 (i 3).val]

/-- The tap sums. -/
theorem r264 (ho : Open A) (i : S16x192x48x48.Idx) :
    val_main_v264 (F := Ideal) A.a0 A.a1 A.a2 A.a3 A.a4 A.a5 A.a6 A.a7 A.a8 i
      = ((taps A (i 0).val (i 1).val (i 2).val (i 3).val : ℝ) : EReal) := by
  simp only [val_main_v208_apply, val_main_v215_apply, val_main_v222_apply, val_main_v229_apply, val_main_v236_apply, val_main_v243_apply, val_main_v250_apply, val_main_v257_apply, val_main_v264_apply,
    val_main_v207_apply, val_main_cst_47_apply, w_zero, r206 ho, r214 ho, r221 ho, r228 ho, r235 ho, r242 ho, r249 ho, r256 ho, r263 ho,
    Ideal.addf_def, ← EReal.coe_add]
  unfold taps
  simp only [Finset.sum_range_succ, Finset.sum_range_zero, zero_add, add_assoc]

/-- The scale of the second normalisation. -/
theorem r268 (i : S192.Idx) :
    val_main_v268 (F := Ideal) A.a9 A.a12 i = ((scale A.g2 A.v2 (i 0).val : ℝ) : EReal) := by
  simp only [val_main_v268_apply, val_main_v267_apply, val_main_v266_apply, val_main_v265_apply, val_main_cst_48_apply,
    w_e5, Ideal.addf_def, Ideal.hostDivf_def, Ideal.hostUnary_sqrt_def]
  exact scale_real A.g2 A.v2 A.v2_nonneg (i 0).val

/-- The tap sums, normalised and clipped. -/
theorem r278 (ho : Open A) (i : S16x192x48x48.Idx) :
    val_main_v278 (F := Ideal) A.a0 A.a1 A.a2 A.a3 A.a4 A.a5 A.a6 A.a7 A.a8 A.a9 A.a10 A.a11 A.a12 i
      = ((mid A (i 0).val (i 1).val (i 2).val (i 3).val : ℝ) : EReal) := by
  simp only [val_main_v278_apply, val_main_call18_v4_apply, val_main_call18_v3_apply, val_main_cst_50_apply,
    val_main_call18_v2_apply, val_main_call18_v1_apply, val_main_call18_v0_apply, val_main_cst_49_apply,
    val_main_v277_apply, val_main_v276_apply, val_main_v275_apply, val_main_v274_apply, val_main_v273_apply,
    val_main_v272_apply, val_main_v271_apply, val_main_v270_apply, val_main_v269_apply,
    r264 ho, r268, w_zero, w_six, Ideal.addf_def, Ideal.subf_def, Ideal.mulf_def, Ideal.maximumf_def,
    Ideal.minimumf_def]
  show min _ (max _ ((_ - ((A.m2 (i 1).val : ℝ) : EReal)) * _ + ((A.b2 (i 1).val : ℝ) : EReal))) = _
  rw [← EReal.coe_sub, ← EReal.coe_mul, ← EReal.coe_add, clip_real]
  rfl

/-- The scale of the third normalisation. -/
theorem r284 (i : S64.Idx) :
    val_main_v284 (F := Ideal) A.a14 A.a17 i = ((scale A.g3 A.v3 (i 0).val : ℝ) : EReal) := by
  simp only [val_main_v284_apply, val_main_v283_apply, val_main_v282_apply, val_main_v281_apply, val_main_cst_51_apply,
    w_e5, Ideal.addf_def, Ideal.hostDivf_def, Ideal.hostUnary_sqrt_def]
  exact scale_real A.g3 A.v3 A.v3_nonneg (i 0).val

/-- The reference's result. -/
theorem r293 (ho : Open A) (i : S16x64x48x48.Idx) :
    val_main_v293 (F := Ideal) A.a0 A.a1 A.a2 A.a3 A.a4 A.a5 A.a6 A.a7 A.a8 A.a9 A.a10 A.a11 A.a12 A.a13 A.a14 A.a15 A.a16 A.a17 i
      = ((out A (i 0).val (i 1).val (i 2).val (i 3).val : ℝ) : EReal) := by
  simp only [val_main_v293_apply, val_main_v292_apply, val_main_v291_apply, val_main_v290_apply, val_main_v289_apply,
    val_main_v288_apply, val_main_v287_apply, val_main_v286_apply, val_main_v285_apply, val_main_v280_apply,
    val_main_v279_apply, r278 ho, r284, Ideal.addf_def, Ideal.subf_def, Ideal.mulf_def]
  rw [sum_coe (n := 192) (fun k => A.a13 (lidx_main_v279 (idx_main_v280 i) k)
      * ((mid A (i 0).val k.val (i 2).val (i 3).val : ℝ) : EReal))
    (fun k => A.w2 (i 1).val k * mid A (i 0).val k (i 2).val (i 3).val)
    (fun k => (EReal.coe_mul _ _).symm)]
  show (_ - ((A.m3 (i 1).val : ℝ) : EReal)) * _ + ((A.b3 (i 1).val : ℝ) : EReal) = _
  rw [← EReal.coe_sub, ← EReal.coe_mul, ← EReal.coe_add]
  rfl

end Cert.RefBack
-- ==== Proof.PreSplit.lean ====
module

public import proofs.«01_k».proof.Proof.Gen.Pre_edge_open
public import proofs.«01_k».proof.Proof.Gen.ReferenceIdeal.Read
public import proofs.«01_k».proof.Proof.RefFront
public import Idealize.ShloMosaic.Lib.ReduceAll
public import Idealize.ShloMosaic.Lib.ValueIdx

@[expose] public section

open Idealize Idealize.ShloMosaic.ValueIdx
open Idealize.ShloMosaic hiding ix0 ix1 ix2 ix3 ix4 ix5 ix6 eq_ix2 eq_ix3 eq_ix4

/-! The precondition, taken apart: every argument is finite, no variance is negative, and the reference's own saliency
map meets the condition at its left edge. -/

noncomputable section

namespace Cert.PreSplit

open Cert.Pre_edge_open Cert.Pre_edge_open.Gen Cert.Words

/-- Every element's magnitude is below infinity. -/
def fin {s : Shape} {ds : List (Fin s.rank)} (hb : S_.BroadcastsInDim s (![] : Fin 0 → Fin s.rank)) (hr : s.ReducesTo ds S_)
    (a : FVec Ideal s .f32) : IVec S_ 1 :=
  Host.reduce IntOp.andi (cmpf .olt (Host.absf a) (broadcastInDim s ![] hb (constant S_ .f32 0x7F800000#32)))
    (constantI S_ 1 1#1) hr h_S_

/-- No element is negative. -/
def nn {s : Shape} {ds : List (Fin s.rank)} (hb : S_.BroadcastsInDim s (![] : Fin 0 → Fin s.rank)) (hr : s.ReducesTo ds S_)
    (a : FVec Ideal s .f32) : IVec S_ 1 :=
  Host.reduce IntOp.andi (cmpf .oge a (broadcastInDim s ![] hb (constant S_ .f32 0x00000000#32)))
    (constantI S_ 1 1#1) hr h_S_

/-- The map, continued past its left edge, stays above the offset. -/
def edge (y : FVec Ideal S16x96x96 .f32) : IVec S_ 1 :=
  Host.reduce IntOp.andi
    (cmpf .ogt
      (addf
        (subf
          (mulf (broadcastInDim S16x96 ![] bcast_S_S16x96 (constant S_ .f32 0x40000000#32))
            (shapeCast S16x96 (extractStridedSlice S16x96x1 ![0, 0, 0] y slices_S16x96x96_S16x96x1_0_0_0)
              shapeCasts_S16x96x1_S16x96))
          (shapeCast S16x96 (extractStridedSlice S16x96x1 ![0, 0, 1] y slices_S16x96x96_S16x96x1_0_0_1)
            shapeCasts_S16x96x1_S16x96))
        (broadcastInDim S16x96 ![] bcast_S_S16x96 (constant S_ .f32 0x3A83126F#32)))
      (broadcastInDim S16x96 ![] bcast_S_S16x96 (constant S_ .f32 0x00000000#32)))
    (constantI S_ 1 1#1) reducesTo_S16x96_S_d0_1 h_S_

/-- The precondition is the conjunction of its parts. -/
theorem fn_eq
    (a0 : FVec Ideal S16x32x96x96 .f32) (a1 : FVec Ideal S192x32 .f32) (a2 : FVec Ideal S192 .f32)
    (a3 : FVec Ideal S192 .f32) (a4 : FVec Ideal S192 .f32) (a5 : FVec Ideal S192 .f32) (a6 : FVec Ideal S1x192 .f32)
    (a7 : FVec Ideal S1 .f32) (a8 : FVec Ideal S192x1x3x3 .f32) (a9 : FVec Ideal S192 .f32)
    (a10 : FVec Ideal S192 .f32) (a11 : FVec Ideal S192 .f32) (a12 : FVec Ideal S192 .f32)
    (a13 : FVec Ideal S64x192 .f32) (a14 : FVec Ideal S64 .f32) (a15 : FVec Ideal S64 .f32)
    (a16 : FVec Ideal S64 .f32) (a17 : FVec Ideal S64 .f32) :
    Cert.Pre_edge_open.fn (F := Ideal) a0 a1 a2 a3 a4 a5 a6 a7 a8 a9 a10 a11 a12 a13 a14 a15 a16 a17 =
      andi (andi (andi (andi (andi (andi (andi (andi (andi (andi (andi (andi (andi (andi (andi (andi (andi (andi (andi (andi (andi (andi (constantI S_ 1 1#1
      ) (fin bcast_S_S16x32x96x96 reducesTo_S16x32x96x96_S_d0_1_2_3 a0)
      ) (fin bcast_S_S192x32 reducesTo_S192x32_S_d0_1 a1) ) (fin bcast_S_S192 reducesTo_S192_S_d0 a2)
      ) (fin bcast_S_S192 reducesTo_S192_S_d0 a3) ) (fin bcast_S_S192 reducesTo_S192_S_d0 a4)
      ) (fin bcast_S_S192 reducesTo_S192_S_d0 a5) ) (fin bcast_S_S1x192 reducesTo_S1x192_S_d0_1 a6)
      ) (fin bcast_S_S1 reducesTo_S1_S_d0 a7) ) (fin bcast_S_S192x1x3x3 reducesTo_S192x1x3x3_S_d0_1_2_3 a8)
      ) (fin bcast_S_S192 reducesTo_S192_S_d0 a9) ) (fin bcast_S_S192 reducesTo_S192_S_d0 a10)
      ) (fin bcast_S_S192 reducesTo_S192_S_d0 a11) ) (fin bcast_S_S192 reducesTo_S192_S_d0 a12)
      ) (fin bcast_S_S64x192 reducesTo_S64x192_S_d0_1 a13) ) (fin bcast_S_S64 reducesTo_S64_S_d0 a14)
      ) (fin bcast_S_S64 reducesTo_S64_S_d0 a15) ) (fin bcast_S_S64 reducesTo_S64_S_d0 a16)
      ) (fin bcast_S_S64 reducesTo_S64_S_d0 a17) ) (nn bcast_S_S192 reducesTo_S192_S_d0 a5)
      ) (nn bcast_S_S192 reducesTo_S192_S_d0 a12) ) (nn bcast_S_S64 reducesTo_S64_S_d0 a17)
      ) (edge (Cert.ReferenceIdeal.Read.val_main_v101 (F := Ideal) a0 a1 a2 a3 a4 a5 a6 a7)) := rfl

/-- A conjunction that holds has both its sides. -/
theorem both {x y : IVec S_ 1} {j : S_.Idx} (h : andi x y j = 1#1) : x j = 1#1 ∧ y j = 1#1 := IntOp.andi_eq_one.mp h

instance : Subsingleton S_.Idx := ⟨fun x y => funext fun a => a.elim0⟩

theorem fin_real {s : Shape} {ds : List (Fin s.rank)} (hb : S_.BroadcastsInDim s (![] : Fin 0 → Fin s.rank))
    (hr : s.ReducesTo ds S_) (a : FVec Ideal s .f32) (h : fin hb hr a ix0 = 1#1) (i : s.Idx) :
    ∃ r : ℝ, a i = (r : EReal) := by
  have h1 := Host.reduce_andi_all _ _ _ _ _ h i
  have h2 : Ideal.cmp .olt (max (a i) (-(a i))) (FloatOps.ofBits (F := Ideal) .f32 0x7F800000#32) = 1#1 := h1
  have h3 : FloatOps.ofBits (F := Ideal) .f32 0x7F800000#32 = (⊤ : EReal) := by
    simp [Ideal.ofBits, Ideal.ieee]
  rw [h3] at h2
  have h4 : max (a i) (-(a i)) < (⊤ : EReal) := by
    by_contra hn
    simp [Ideal.cmp, hn] at h2
  have h5 := max_lt_iff.mp h4
  have h6 : a i ≠ (⊥ : EReal) := fun e => by
    have := h5.2
    rw [e] at this
    simp at this
  exact ⟨(a i).toReal, (EReal.coe_toReal h5.1.ne h6).symm⟩

theorem nn_real {s : Shape} {ds : List (Fin s.rank)} (hb : S_.BroadcastsInDim s (![] : Fin 0 → Fin s.rank))
    (hr : s.ReducesTo ds S_) (a : FVec Ideal s .f32) (h : nn hb hr a ix0 = 1#1) (i : s.Idx) :
    (0 : EReal) ≤ a i := by
  have h1 := Host.reduce_andi_all _ _ _ _ _ h i
  have h2 : Ideal.cmp .oge (a i) (FloatOps.ofBits (F := Ideal) .f32 0x00000000#32) = 1#1 := h1
  rw [w_zero] at h2
  by_contra hn
  simp [Ideal.cmp, hn] at h2

/-- What the precondition says of the arguments. -/
theorem pre_parts
    (a0 : FVec Ideal S16x32x96x96 .f32) (a1 : FVec Ideal S192x32 .f32) (a2 : FVec Ideal S192 .f32)
    (a3 : FVec Ideal S192 .f32) (a4 : FVec Ideal S192 .f32) (a5 : FVec Ideal S192 .f32) (a6 : FVec Ideal S1x192 .f32)
    (a7 : FVec Ideal S1 .f32) (a8 : FVec Ideal S192x1x3x3 .f32) (a9 : FVec Ideal S192 .f32)
    (a10 : FVec Ideal S192 .f32) (a11 : FVec Ideal S192 .f32) (a12 : FVec Ideal S192 .f32)
    (a13 : FVec Ideal S64x192 .f32) (a14 : FVec Ideal S64 .f32) (a15 : FVec Ideal S64 .f32)
    (a16 : FVec Ideal S64 .f32) (a17 : FVec Ideal S64 .f32)
    (h : Cert.Pre_edge_open.fn (F := Ideal) a0 a1 a2 a3 a4 a5 a6 a7 a8 a9 a10 a11 a12 a13 a14 a15 a16 a17 = fun _ => 1#1) :
    (∀ i, ∃ r : ℝ, a0 i = (r : EReal)) ∧
      (∀ i, ∃ r : ℝ, a1 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, 0 ≤ a5 i) ∧
      (∀ i, 0 ≤ a12 i) ∧
      (∀ i, 0 ≤ a17 i) ∧
      edge (Cert.ReferenceIdeal.Read.val_main_v101 (F := Ideal) a0 a1 a2 a3 a4 a5 a6 a7) ix0 = 1#1 := by
  rw [fn_eq] at h
  have h := congrFun h ix0
  obtain ⟨h, h21⟩ := both h
  obtain ⟨h, h20⟩ := both h
  obtain ⟨h, h19⟩ := both h
  obtain ⟨h, h18⟩ := both h
  obtain ⟨h, h17⟩ := both h
  obtain ⟨h, h16⟩ := both h
  obtain ⟨h, h15⟩ := both h
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  obtain ⟨h, h0⟩ := both h
  exact ⟨fin_real _ _ _ h0, fin_real _ _ _ h1, fin_real _ _ _ h2, fin_real _ _ _ h3, fin_real _ _ _ h4, fin_real _ _ _ h5, fin_real _ _ _ h6, fin_real _ _ _ h7, fin_real _ _ _ h8, fin_real _ _ _ h9, fin_real _ _ _ h10, fin_real _ _ _ h11, fin_real _ _ _ h12, fin_real _ _ _ h13, fin_real _ _ _ h14, fin_real _ _ _ h15, fin_real _ _ _ h16, fin_real _ _ _ h17, nn_real _ _ _ h18, nn_real _ _ _ h19, nn_real _ _ _ h20, h21⟩

end Cert.PreSplit
-- ==== Proof.Decode.lean ====
module

public import proofs.«01_k».proof.Proof.PreSplit
public import Idealize.ShloMosaic.Lib.Pointwise

@[expose] public section

open Idealize Idealize.ShloMosaic.ValueIdx
open Idealize.ShloMosaic hiding ix0 ix1 ix2 ix3 ix4 ix5 ix6 eq_ix2 eq_ix3 eq_ix4

/-! Under the precondition the arguments are arrays of real numbers of which the model's condition holds. -/

noncomputable section

namespace Cert.Decode

open Cert.Pre_edge_open Cert.Pre_edge_open.Gen Cert.Model Cert.Words Cert.PreSplit

/-- An array's elements as real numbers, zero past its end. -/
def lift1 {n : ℕ} (a : FVec Ideal ⟨1, ![n]⟩ .f32) (c : ℕ) : ℝ :=
  if h : c < n then EReal.toReal (a (ix1 ⟨c, h⟩)) else 0

/-- The same with two axes. -/
def lift2 {n k : ℕ} (a : FVec Ideal ⟨2, ![n, k]⟩ .f32) (c d : ℕ) : ℝ :=
  if h : c < n ∧ d < k then EReal.toReal (a (ix2 ⟨c, h.1⟩ ⟨d, h.2⟩)) else 0

/-- The same with four. -/
def lift4 {n k l o : ℕ} (a : FVec Ideal ⟨4, ![n, k, l, o]⟩ .f32) (c d e f : ℕ) : ℝ :=
  if h : c < n ∧ d < k ∧ e < l ∧ f < o then
    EReal.toReal (a (ix4 ⟨c, h.1⟩ ⟨d, h.2.1⟩ ⟨e, h.2.2.1⟩ ⟨f, h.2.2.2⟩)) else 0

/-- A finite element is its real number. -/
theorem real_of {s : Shape} {a : FVec Ideal s .f32} (f : ∀ i, ∃ r : ℝ, a i = (r : EReal)) (i : s.Idx) :
    a i = ((EReal.toReal (a i) : ℝ) : EReal) := by
  obtain ⟨r, hr⟩ := f i
  rw [hr, EReal.toReal_coe]

theorem lift1_eq {n : ℕ} {a : FVec Ideal ⟨1, ![n]⟩ .f32} (f : ∀ i, ∃ r : ℝ, a i = (r : EReal))
    (i : (⟨1, ![n]⟩ : Shape).Idx) : a i = ((lift1 a (i 0).val : ℝ) : EReal) := by
  have h : (i 0).val < n := (i 0).isLt
  rw [lift1, dif_pos h]
  exact (congrArg a (Idealize.ShloMosaic.ValueIdx.eq_ix1 i)).trans (real_of f _)

theorem lift2_eq {n k : ℕ} {a : FVec Ideal ⟨2, ![n, k]⟩ .f32} (f : ∀ i, ∃ r : ℝ, a i = (r : EReal))
    (i : (⟨2, ![n, k]⟩ : Shape).Idx) : a i = ((lift2 a (i 0).val (i 1).val : ℝ) : EReal) := by
  have h : (i 0).val < n ∧ (i 1).val < k := ⟨(i 0).isLt, (i 1).isLt⟩
  rw [lift2, dif_pos h]
  exact (congrArg a (eq_ix2 i)).trans (real_of f _)

theorem lift4_eq {n k l o : ℕ} {a : FVec Ideal ⟨4, ![n, k, l, o]⟩ .f32} (f : ∀ i, ∃ r : ℝ, a i = (r : EReal))
    (i : (⟨4, ![n, k, l, o]⟩ : Shape).Idx) :
    a i = ((lift4 a (i 0).val (i 1).val (i 2).val (i 3).val : ℝ) : EReal) := by
  have h : (i 0).val < n ∧ (i 1).val < k ∧ (i 2).val < l ∧ (i 3).val < o :=
    ⟨(i 0).isLt, (i 1).isLt, (i 2).isLt, (i 3).isLt⟩
  rw [lift4, dif_pos h]
  exact (congrArg a (eq_ix4 i)).trans (real_of f _)

/-- The array of one row. -/
theorem one_row {k : ℕ} {a : FVec Ideal ⟨2, ![1, k]⟩ .f32} (f : ∀ i, ∃ r : ℝ, a i = (r : EReal))
    (i : (⟨2, ![1, k]⟩ : Shape).Idx) : a i = ((lift2 a 0 (i 1).val : ℝ) : EReal) := by
  have h : (i 0).val = 0 := Nat.lt_one_iff.mp (i 0).isLt
  have e := lift2_eq f i
  rwa [h] at e

/-- The array of one number. -/
theorem one_cell {a : FVec Ideal ⟨1, ![1]⟩ .f32} (f : ∀ i, ∃ r : ℝ, a i = (r : EReal))
    (i : (⟨1, ![1]⟩ : Shape).Idx) : a i = ((lift1 a 0 : ℝ) : EReal) := by
  have h : (i 0).val = 0 := Nat.lt_one_iff.mp (i 0).isLt
  have e := lift1_eq f i
  rwa [h] at e

/-- The array with one position on its second axis. -/
theorem one_group {n l o : ℕ} {a : FVec Ideal ⟨4, ![n, 1, l, o]⟩ .f32} (f : ∀ i, ∃ r : ℝ, a i = (r : EReal))
    (i : (⟨4, ![n, 1, l, o]⟩ : Shape).Idx) :
    a i = ((lift4 a (i 0).val 0 (i 2).val (i 3).val : ℝ) : EReal) := by
  have h : (i 1).val = 0 := Nat.lt_one_iff.mp (i 1).isLt
  have e := lift4_eq f i
  rwa [h] at e

theorem lift1_nonneg {n : ℕ} {a : FVec Ideal ⟨1, ![n]⟩ .f32} (h : ∀ i, (0 : EReal) ≤ a i) (c : ℕ) :
    0 ≤ lift1 a c := by
  unfold lift1
  split
  · exact EReal.toReal_nonneg (h _)
  · exact le_rfl

/-- The condition at the left edge, over the real numbers. -/
theorem open_of_edge {A : Args}
    (h : edge (Cert.ReferenceIdeal.Read.val_main_v101 (F := Ideal) A.a0 A.a1 A.a2 A.a3 A.a4 A.a5 A.a6 A.a7) ix0 = 1#1) :
    Open A := by
  intro b hb q hq
  have h1 := Host.reduce_andi_all _ _ _ _ _ h (ix2 ⟨b, hb⟩ ⟨q, hq⟩)
  have h2 : Ideal.cmp .ogt
      (FloatOps.ofBits (F := Ideal) .f32 0x40000000#32 * ((se A b q 0 : ℝ) : EReal) - ((se A b q 1 : ℝ) : EReal)
        + FloatOps.ofBits (F := Ideal) .f32 0x3A83126F#32)
      (FloatOps.ofBits (F := Ideal) .f32 0x00000000#32) = 1#1 := by
    have e0 : shapeCast S16x96 (extractStridedSlice S16x96x1 ![0, 0, 0]
        (Cert.ReferenceIdeal.Read.val_main_v101 (F := Ideal) A.a0 A.a1 A.a2 A.a3 A.a4 A.a5 A.a6 A.a7)
        slices_S16x96x96_S16x96x1_0_0_0) shapeCasts_S16x96x1_S16x96 (ix2 ⟨b, hb⟩ ⟨q, hq⟩) = ((se A b q 0 : ℝ) : EReal) := by
      pointwise []
      rw [Cert.RefFront.r101]
      rfl
    have e1 : shapeCast S16x96 (extractStridedSlice S16x96x1 ![0, 0, 1]
        (Cert.ReferenceIdeal.Read.val_main_v101 (F := Ideal) A.a0 A.a1 A.a2 A.a3 A.a4 A.a5 A.a6 A.a7)
        slices_S16x96x96_S16x96x1_0_0_1) shapeCasts_S16x96x1_S16x96 (ix2 ⟨b, hb⟩ ⟨q, hq⟩) = ((se A b q 1 : ℝ) : EReal) := by
      pointwise []
      rw [Cert.RefFront.r101]
      rfl
    rw [← e0, ← e1]
    exact h1
  rw [w_two, w_e3, w_zero, ← EReal.coe_mul, ← EReal.coe_sub, ← EReal.coe_add] at h2
  by_contra hn
  have h3 : ¬ (((0 : ℝ) : EReal) < ((2 * se A b q 0 - se A b q 1 + Cert.Resample.e3 : ℝ) : EReal)) := by
    rwa [EReal.coe_lt_coe_iff]
  simp only [Ideal.cmp, h3] at h2
  exact absurd h2 (by decide)

/-- The arguments as real numbers. -/
theorem decode
    (a0 : FVec Ideal S16x32x96x96 .f32) (a1 : FVec Ideal S192x32 .f32) (a2 : FVec Ideal S192 .f32)
    (a3 : FVec Ideal S192 .f32) (a4 : FVec Ideal S192 .f32) (a5 : FVec Ideal S192 .f32) (a6 : FVec Ideal S1x192 .f32)
    (a7 : FVec Ideal S1 .f32) (a8 : FVec Ideal S192x1x3x3 .f32) (a9 : FVec Ideal S192 .f32)
    (a10 : FVec Ideal S192 .f32) (a11 : FVec Ideal S192 .f32) (a12 : FVec Ideal S192 .f32)
    (a13 : FVec Ideal S64x192 .f32) (a14 : FVec Ideal S64 .f32) (a15 : FVec Ideal S64 .f32)
    (a16 : FVec Ideal S64 .f32) (a17 : FVec Ideal S64 .f32)
    (h : Cert.Pre_edge_open.fn (F := Ideal) a0 a1 a2 a3 a4 a5 a6 a7 a8 a9 a10 a11 a12 a13 a14 a15 a16 a17
      = fun _ => 1#1) :
    ∃ A : Args, Open A ∧ a0 = A.a0 ∧
      a1 = A.a1 ∧
      a2 = A.a2 ∧
      a3 = A.a3 ∧
      a4 = A.a4 ∧
      a5 = A.a5 ∧
      a6 = A.a6 ∧
      a7 = A.a7 ∧
      a8 = A.a8 ∧
      a9 = A.a9 ∧
      a10 = A.a10 ∧
      a11 = A.a11 ∧
      a12 = A.a12 ∧
      a13 = A.a13 ∧
      a14 = A.a14 ∧
      a15 = A.a15 ∧
      a16 = A.a16 ∧
      a17 = A.a17 := by
  have h0 := pre_parts _ _ _ _ _ _ _ _ _ _ _ _ _ _ _ _ _ _ h
  obtain ⟨f0, f1, f2, f3, f4, f5, f6, f7, f8, f9, f10, f11, f12, f13, f14, f15, f16, f17, n5, n12, n17, he⟩ := h0
  obtain ⟨A, hA⟩ : ∃ A : Args, a0 = A.a0 ∧
      a1 = A.a1 ∧
      a2 = A.a2 ∧
      a3 = A.a3 ∧
      a4 = A.a4 ∧
      a5 = A.a5 ∧
      a6 = A.a6 ∧
      a7 = A.a7 ∧
      a8 = A.a8 ∧
      a9 = A.a9 ∧
      a10 = A.a10 ∧
      a11 = A.a11 ∧
      a12 = A.a12 ∧
      a13 = A.a13 ∧
      a14 = A.a14 ∧
      a15 = A.a15 ∧
      a16 = A.a16 ∧
      a17 = A.a17 :=
    ⟨⟨lift4 a0,
      lift2 a1,
      lift1 a2,
      lift1 a3,
      lift1 a4,
      lift1 a5,
      fun c => lift2 a6 0 c,
      lift1 a7 0,
      fun c i j => lift4 a8 c 0 i j,
      lift1 a9,
      lift1 a10,
      lift1 a11,
      lift1 a12,
      lift2 a13,
      lift1 a14,
      lift1 a15,
      lift1 a16,
      lift1 a17,
      lift1_nonneg n5,
      lift1_nonneg n12,
      lift1_nonneg n17⟩,
      funext fun i => lift4_eq f0 i,
      funext fun i => lift2_eq f1 i,
      funext fun i => lift1_eq f2 i,
      funext fun i => lift1_eq f3 i,
      funext fun i => lift1_eq f4 i,
      funext fun i => lift1_eq f5 i,
      funext fun i => one_row f6 i,
      funext fun i => one_cell f7 i,
      funext fun i => one_group f8 i,
      funext fun i => lift1_eq f9 i,
      funext fun i => lift1_eq f10 i,
      funext fun i => lift1_eq f11 i,
      funext fun i => lift1_eq f12 i,
      funext fun i => lift2_eq f13 i,
      funext fun i => lift1_eq f14 i,
      funext fun i => lift1_eq f15 i,
      funext fun i => lift1_eq f16 i,
      funext fun i => lift1_eq f17 i⟩
  refine ⟨A, open_of_edge ?_, hA⟩
  obtain ⟨e0, e1, e2, e3, e4, e5, e6, e7, -⟩ := hA
  rw [← e0, ← e1, ← e2, ← e3, ← e4, ← e5, ← e6, ← e7]
  exact he

end Cert.Decode
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_edge_open
public import proofs.«01_k».proof.Proof.Gen.KernelIdeal.Value
public import proofs.«01_k».proof.Proof.Gen.ReferenceIdeal.Run
public import proofs.«01_k».proof.Proof.Gen.ReferenceIdeal.Read
public import proofs.«01_k».proof.Proof.KerArray
public import proofs.«01_k».proof.Proof.RefBack
public import proofs.«01_k».proof.Proof.Decode
public import Idealize.ShloMosaic.Adequacy
public import Idealize.ShloMosaic.Init

@[expose] public section

/-! The certificate. The frames and the quiescence come from the generated runs. The value claim decodes the
precondition into arrays of real numbers, on which both programs leave the model's array. -/

noncomputable section

namespace Cert.Proof

open Idealize.ShloMosaic Idealize.SL.Sem Idealize.ShloMosaic.StableHlo

/-- The reference runs to the end without a fault, leaves its arguments as they were, and no semaphore of its is
    raised: it has none. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel and the reference leave the same array. -/
theorem value : Cert.algebraic_KernelIdeal_ReferenceIdeal_pre_edge_open := by
  intro m g m' g' hpre hag
  choose A ho hA using fun c => Cert.Decode.decode _ _ _ _ _ _ _ _ _ _ _ _ _ _ _ _ _ _ (hpre c)
  refine ⟨fun c => Cert.KerArray.result (c := c) (A c), ?_, ?_⟩
  · refine (θ_run Cert.KernelIdeal.defs _ _).mono (fun r h c => ⟨(h c).1.trans ?_, (h c).2⟩)
      (Cert.KernelIdeal.Value.run_blocks m g)
    exact Cert.KerArray.final ⟨(hA c).1,
      (hA c).2.1,
      (hA c).2.2.1,
      (hA c).2.2.2.1,
      (hA c).2.2.2.2.1,
      (hA c).2.2.2.2.2.1,
      (hA c).2.2.2.2.2.2.1,
      (hA c).2.2.2.2.2.2.2.1,
      (hA c).2.2.2.2.2.2.2.2.1,
      (hA c).2.2.2.2.2.2.2.2.2.1,
      (hA c).2.2.2.2.2.2.2.2.2.2.1,
      (hA c).2.2.2.2.2.2.2.2.2.2.2.1,
      (hA c).2.2.2.2.2.2.2.2.2.2.2.2.1,
      (hA c).2.2.2.2.2.2.2.2.2.2.2.2.2.1,
      (hA c).2.2.2.2.2.2.2.2.2.2.2.2.2.2.1,
      (hA c).2.2.2.2.2.2.2.2.2.2.2.2.2.2.2.1,
      (hA c).2.2.2.2.2.2.2.2.2.2.2.2.2.2.2.2.1,
      (hA c).2.2.2.2.2.2.2.2.2.2.2.2.2.2.2.2.2⟩ (ho c)
  · refine (θ_run Cert.ReferenceIdeal.defs _ _).mono (fun r h c => ⟨(h c).1.trans ?_, (h c).2⟩)
      (Cert.ReferenceIdeal.Value.run (F := Ideal) m' g')
    have e0 : launchContents m' c (Proc.devRef .tc Cert.ReferenceIdeal.main_arg0) = (A c).a0 :=
      ((hag c).1).trans ((hA c).1)
    have e1 : launchContents m' c (Proc.devRef .tc Cert.ReferenceIdeal.main_arg1) = (A c).a1 :=
      ((hag c).2.1).trans ((hA c).2.1)
    have e2 : launchContents m' c (Proc.devRef .tc Cert.ReferenceIdeal.main_arg2) = (A c).a2 :=
      ((hag c).2.2.1).trans ((hA c).2.2.1)
    have e3 : launchContents m' c (Proc.devRef .tc Cert.ReferenceIdeal.main_arg3) = (A c).a3 :=
      ((hag c).2.2.2.1).trans ((hA c).2.2.2.1)
    have e4 : launchContents m' c (Proc.devRef .tc Cert.ReferenceIdeal.main_arg4) = (A c).a4 :=
      ((hag c).2.2.2.2.1).trans ((hA c).2.2.2.2.1)
    have e5 : launchContents m' c (Proc.devRef .tc Cert.ReferenceIdeal.main_arg5) = (A c).a5 :=
      ((hag c).2.2.2.2.2.1).trans ((hA c).2.2.2.2.2.1)
    have e6 : launchContents m' c (Proc.devRef .tc Cert.ReferenceIdeal.main_arg6) = (A c).a6 :=
      ((hag c).2.2.2.2.2.2.1).trans ((hA c).2.2.2.2.2.2.1)
    have e7 : launchContents m' c (Proc.devRef .tc Cert.ReferenceIdeal.main_arg7) = (A c).a7 :=
      ((hag c).2.2.2.2.2.2.2.1).trans ((hA c).2.2.2.2.2.2.2.1)
    have e8 : launchContents m' c (Proc.devRef .tc Cert.ReferenceIdeal.main_arg8) = (A c).a8 :=
      ((hag c).2.2.2.2.2.2.2.2.1).trans ((hA c).2.2.2.2.2.2.2.2.1)
    have e9 : launchContents m' c (Proc.devRef .tc Cert.ReferenceIdeal.main_arg9) = (A c).a9 :=
      ((hag c).2.2.2.2.2.2.2.2.2.1).trans ((hA c).2.2.2.2.2.2.2.2.2.1)
    have e10 : launchContents m' c (Proc.devRef .tc Cert.ReferenceIdeal.main_arg10) = (A c).a10 :=
      ((hag c).2.2.2.2.2.2.2.2.2.2.1).trans ((hA c).2.2.2.2.2.2.2.2.2.2.1)
    have e11 : launchContents m' c (Proc.devRef .tc Cert.ReferenceIdeal.main_arg11) = (A c).a11 :=
      ((hag c).2.2.2.2.2.2.2.2.2.2.2.1).trans ((hA c).2.2.2.2.2.2.2.2.2.2.2.1)
    have e12 : launchContents m' c (Proc.devRef .tc Cert.ReferenceIdeal.main_arg12) = (A c).a12 :=
      ((hag c).2.2.2.2.2.2.2.2.2.2.2.2.1).trans ((hA c).2.2.2.2.2.2.2.2.2.2.2.2.1)
    have e13 : launchContents m' c (Proc.devRef .tc Cert.ReferenceIdeal.main_arg13) = (A c).a13 :=
      ((hag c).2.2.2.2.2.2.2.2.2.2.2.2.2.1).trans ((hA c).2.2.2.2.2.2.2.2.2.2.2.2.2.1)
    have e14 : launchContents m' c (Proc.devRef .tc Cert.ReferenceIdeal.main_arg14) = (A c).a14 :=
      ((hag c).2.2.2.2.2.2.2.2.2.2.2.2.2.2.1).trans ((hA c).2.2.2.2.2.2.2.2.2.2.2.2.2.2.1)
    have e15 : launchContents m' c (Proc.devRef .tc Cert.ReferenceIdeal.main_arg15) = (A c).a15 :=
      ((hag c).2.2.2.2.2.2.2.2.2.2.2.2.2.2.2.1).trans ((hA c).2.2.2.2.2.2.2.2.2.2.2.2.2.2.2.1)
    have e16 : launchContents m' c (Proc.devRef .tc Cert.ReferenceIdeal.main_arg16) = (A c).a16 :=
      ((hag c).2.2.2.2.2.2.2.2.2.2.2.2.2.2.2.2.1).trans ((hA c).2.2.2.2.2.2.2.2.2.2.2.2.2.2.2.2.1)
    have e17 : launchContents m' c (Proc.devRef .tc Cert.ReferenceIdeal.main_arg17) = (A c).a17 :=
      ((hag c).2.2.2.2.2.2.2.2.2.2.2.2.2.2.2.2.2).trans ((hA c).2.2.2.2.2.2.2.2.2.2.2.2.2.2.2.2.2)
    refine (Cert.ReferenceIdeal.Read.val_main_v293_eq (F := Ideal) (launchContents m' c)).trans ?_
    rw [e0, e1, e2, e3, e4, e5, e6, e7, e8, e9, e10, e11, e12, e13, e14, e15, e16, e17]
    exact funext (Cert.RefBack.r293 (ho c))

/-- Everything the certificate states. -/
theorem claim : Cert.Claim :=
  ⟨Cert.Kernel.Gen.facts, Cert.KernelIdeal.Gen.facts, Cert.ReferenceIdeal.Gen.facts, Cert.Pre_edge_open.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, trivial, value⟩

end Cert.Proof

end
